-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x1x4096 : Shape := ⟨3, ![24, 1, 4096]⟩
abbrev S14336x4096 : Shape := ⟨2, ![14336, 4096]⟩
abbrev S14336 : Shape := ⟨1, ![14336]⟩
abbrev S24x4096 : Shape := ⟨2, ![24, 4096]⟩
abbrev S1x14336 : Shape := ⟨2, ![1, 14336]⟩
abbrev S24x14336 : Shape := ⟨2, ![24, 14336]⟩
abbrev S4x1024x4096 : Shape := ⟨3, ![4, 1024, 4096]⟩
abbrev S_ : Shape := ⟨0, ![]⟩
abbrev S4 : Shape := ⟨1, ![4]⟩
abbrev S1 : Shape := ⟨1, ![1]⟩
abbrev S1x1024x4096 : Shape := ⟨3, ![1, 1024, 4096]⟩
abbrev S1024x4096 : Shape := ⟨2, ![1024, 4096]⟩
abbrev S1x1024 : Shape := ⟨2, ![1, 1024]⟩
abbrev S4096x1024 : Shape := ⟨2, ![4096, 1024]⟩
abbrev S24x1024 : Shape := ⟨2, ![24, 1024]⟩
abbrev S24x1x14336 : Shape := ⟨3, ![24, 1, 14336]⟩

abbrev nBuf : Space → Nat
  | .hbm => 7
  | .vmem => 4
  | .smem => 0
  | _ => 0

abbrev bufTy : (tb : Table) → Fin (tcTables nBuf tb) → BufTy
  | .hbm, ⟨0, _⟩ => ⟨S24x1x4096, .bf16⟩
  | .hbm, ⟨1, _⟩ => ⟨S14336x4096, .i8⟩
  | .hbm, ⟨2, _⟩ => ⟨S14336, .f32⟩
  | .hbm, ⟨3, _⟩ => ⟨S24x4096, .bf16⟩
  | .hbm, ⟨4, _⟩ => ⟨S1x14336, .f32⟩
  | .hbm, ⟨5, _⟩ => ⟨S24x14336, .bf16⟩
  | .hbm, ⟨6, _⟩ => ⟨S24x1x14336, .bf16⟩
  | .local _ .vmem, ⟨0, _⟩ => ⟨S24x14336, .bf16⟩
  | .local _ .vmem, ⟨1, _⟩ => ⟨S24x4096, .bf16⟩
  | .local _ .vmem, ⟨2, _⟩ => ⟨S1x14336, .f32⟩
  | .local _ .vmem, ⟨3, _⟩ => ⟨S4x1024x4096, .i8⟩
  | _, _ => ⟨S24x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0

abbrev nD : Nat := 1
abbrev τ : Topo := Topo.v7x

variable {F : FTy → Type} [FloatOps F]

abbrev grid0 : Pipeline.Grid := .none

@[reducible] def k0_t1_loop : Scf.Loop 32 :=
  let c0_i32_17 : BitVec 32 := 0#32
  let c14_i32 : BitVec 32 := 14#32
  let v20 : BitVec 32 := Scalar.addi c0_i32_17 c14_i32
  let c1_i32_18 : BitVec 32 := 1#32
  ⟨c0_i32_17, v20, c1_i32_18⟩
def k0_mult1 (k0_t1 : Fin k0_t1_loop.trips) : BitVec 32 :=
  let c0_i32_17 : BitVec 32 := 0#32
  let c1_i32_18 : BitVec 32 := 1#32
  let arg10 : BitVec 32 := Scf.iv c0_i32_17 c1_i32_18 k0_t1
  let c1024_i32_20 : BitVec 32 := 1024#32
  let v22 : BitVec 32 := Scalar.muli arg10 c1024_i32_20
  v22
def k0_off1 (k0_t1 : Fin k0_t1_loop.trips) : Fin 1 → Nat :=
  let c0_i32_17 : BitVec 32 := 0#32
  let c1_i32_18 : BitVec 32 := 1#32
  let arg10 : BitVec 32 := Scf.iv c0_i32_17 c1_i32_18 k0_t1
  let c4_i32 : BitVec 32 := 4#32
  let v21 : BitVec 32 := Scalar.remsi arg10 c4_i32
  ![v21.toNat]
def k0_off2 (k0_t1 : Fin k0_t1_loop.trips) : Fin 3 → Nat :=
  let c0_i32_17 : BitVec 32 := 0#32
  let c1_i32_18 : BitVec 32 := 1#32
  let arg10 : BitVec 32 := Scf.iv c0_i32_17 c1_i32_18 k0_t1
  let c4_i32 : BitVec 32 := 4#32
  let v21 : BitVec 32 := Scalar.remsi arg10 c4_i32
  let c0_i32_22 : BitVec 32 := 0#32
  let c0_i32_23 : BitVec 32 := 0#32
  ![v21.toNat, 0, 0]
def k0_off3 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c1024_i32_21 : BitVec 32 := 1024#32
  let v24 : BitVec 32 := Scalar.muli arg10 c1024_i32_21
  let c0_i32_24 : BitVec 32 := 0#32
  ![v24.toNat, 0]
def k0_off4 (k0_t1 : Fin k0_t1_loop.trips) : Fin 2 → Nat :=
  let c0 : Index := 0#32
  let c0_i32_17 : BitVec 32 := 0#32
  let c1_i32_18 : BitVec 32 := 1#32
  let arg10 : BitVec 32 := Scf.iv c0_i32_17 c1_i32_18 k0_t1
  let c1024_i32_20 : BitVec 32 := 1024#32
  let v22 : BitVec 32 := Scalar.muli arg10 c1024_i32_20
  let v23 : BitVec 32 := v22
  let v30 : Index := Scalar.indexCast v23
  ![0, v30.toNat]
def k0_off5 (k0_t1 : Fin k0_t1_loop.trips) : Fin 3 → Nat :=
  let c0_i32_17 : BitVec 32 := 0#32
  let c1_i32_18 : BitVec 32 := 1#32
  let arg10 : BitVec 32 := Scf.iv c0_i32_17 c1_i32_18 k0_t1
  let c4_i32 : BitVec 32 := 4#32
  let v21 : BitVec 32 := Scalar.remsi arg10 c4_i32
  let v33 : Index := Scalar.indexCast v21
  let c0_25 : Index := 0#32
  let c0_26 : Index := 0#32
  ![v33.toNat, 0, 0]
def k0_off6 (k0_t1 : Fin k0_t1_loop.trips) : Fin 2 → Nat :=
  let c0_29 : Index := 0#32
  let c0_i32_17 : BitVec 32 := 0#32
  let c1_i32_18 : BitVec 32 := 1#32
  let arg10 : BitVec 32 := Scf.iv c0_i32_17 c1_i32_18 k0_t1
  let c1024_i32_20 : BitVec 32 := 1024#32
  let v22 : BitVec 32 := Scalar.muli arg10 c1024_i32_20
  let v23 : BitVec 32 := v22
  let v43 : Index := Scalar.indexCast v23
  ![0, v43.toNat]
def k0_cond1 (k0_t1 : Fin k0_t1_loop.trips) : BitVec 1 :=
  let c0_i32_17 : BitVec 32 := 0#32
  let c1_i32_18 : BitVec 32 := 1#32
  let arg10 : BitVec 32 := Scf.iv c0_i32_17 c1_i32_18 k0_t1
  let c4_i32_30 : BitVec 32 := 4#32
  let v45 : BitVec 32 := Scalar.addi arg10 c4_i32_30
  let c14_i32_31 : BitVec 32 := 14#32
  let v46 : BitVec 1 := Scalar.cmpi .slt v45 c14_i32_31
  let v47 : BitVec 32 := Scalar.extui v46
  let c0_i32_32 : BitVec 32 := 0#32
  let v48 : BitVec 1 := Scalar.cmpi .ne v47 c0_i32_32
  v48

def k0_off7 (k0_t1 : Fin k0_t1_loop.trips) : Fin 1 → Nat :=
  let c0_i32_17 : BitVec 32 := 0#32
  let c1_i32_18 : BitVec 32 := 1#32
  let arg10 : BitVec 32 := Scf.iv c0_i32_17 c1_i32_18 k0_t1
  let c4_i32 : BitVec 32 := 4#32
  let v21 : BitVec 32 := Scalar.remsi arg10 c4_i32
  ![v21.toNat]
def k0_off8 (k0_t1 : Fin k0_t1_loop.trips) : Fin 3 → Nat :=
  let c0_i32_17 : BitVec 32 := 0#32
  let c1_i32_18 : BitVec 32 := 1#32
  let arg10 : BitVec 32 := Scf.iv c0_i32_17 c1_i32_18 k0_t1
  let c4_i32 : BitVec 32 := 4#32
  let v21 : BitVec 32 := Scalar.remsi arg10 c4_i32
  let c0_i32_35 : BitVec 32 := 0#32
  let c0_i32_36 : BitVec 32 := 0#32
  ![v21.toNat, 0, 0]
def k0_off9 (k0_t1 : Fin k0_t1_loop.trips) : Fin 2 → Nat :=
  let c0_i32_17 : BitVec 32 := 0#32
  let c1_i32_18 : BitVec 32 := 1#32
  let arg10 : BitVec 32 := Scf.iv c0_i32_17 c1_i32_18 k0_t1
  let c4_i32_33 : BitVec 32 := 4#32
  let v49 : BitVec 32 := Scalar.addi arg10 c4_i32_33
  let c1024_i32_34 : BitVec 32 := 1024#32
  let v50 : BitVec 32 := Scalar.muli v49 c1024_i32_34
  let c0_i32_37 : BitVec 32 := 0#32
  ![v50.toNat, 0]
abbrev stage0_0 : Fin 1 → Memref sig .tc .vmem S24x14336 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S24x1x4096 : Shape := ⟨3, ![24, 1, 4096]⟩
abbrev S14336x4096 : Shape := ⟨2, ![14336, 4096]⟩
abbrev S14336 : Shape := ⟨1, ![14336]⟩
abbrev S14336x1 : Shape := ⟨2, ![14336, 1]⟩
abbrev S24x1x14336 : Shape := ⟨3, ![24, 1, 14336]⟩

abbrev nBuf : Space → Nat
  | .hbm => 11
  | .vmem => 0
  | .smem => 0
  | _ => 0

abbrev bufTy : (tb : Table) → Fin (tcTables nBuf tb) → BufTy
  | .hbm, ⟨0, _⟩ => ⟨S24x1x4096, .bf16⟩
  | .hbm, ⟨1, _⟩ => ⟨S14336x4096, .i8⟩
  | .hbm, ⟨2, _⟩ => ⟨S14336, .f32⟩
  | .hbm, ⟨3, _⟩ => ⟨S14336x4096, .i32⟩
  | .hbm, ⟨4, _⟩ => ⟨S14336x4096, .bf16⟩
  | .hbm, ⟨5, _⟩ => ⟨S14336, .bf16⟩
  | .hbm, ⟨6, _⟩ => ⟨S14336x1, .bf16⟩
  | .hbm, ⟨7, _⟩ => ⟨S14336x4096, .bf16⟩
  | .hbm, ⟨8, _⟩ => ⟨S14336x4096, .bf16⟩
  | .hbm, ⟨9, _⟩ => ⟨S24x1x14336, .f32⟩
  | .hbm, ⟨10, _⟩ => ⟨S24x1x14336, .bf16⟩
  | _, _ => ⟨S24x1x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.BodyKernel.lean ====
/-
  The kernel's body, run once at symbolic contents of its operands. The four weight slabs that are in flight across a
  trip boundary, the slabs at rest and the columns of the result already written are the loop's invariant; a trip waits
  for slab `k`, multiplies, stores 1024 columns of the result and issues slab `k + 4` into the slot it freed.
-/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.FrameSuffix
public import Idealize.ShloMosaic.Lib.Ring
public import Idealize.ShloMosaic.Lib.WritesUnit
public import Idealize.ShloMosaic.Lib.Tactic

@[expose] public section

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the counters of each transfer of the kernel's own. -/
abbrev UU (nD : Nat) (τ : Topo) : Type := Pipeline.UD sig nD τ
local notation "𝕄" => MT nD τ sig Unit (Elt F) ℕ (UU nD τ) ℕ
/-- The program has no variants. -/
abbrev 𝒱₀ : Variants := Variants.none

omit [FloatOps F] in
/-- Equal propositions entail one another. -/
theorem entails_of_eq {P Q : sProp 𝕄} (e : P = Q) : P ⊢ Q := e ▸ .rfl

/-! ## Names: slab `b` of the weights, slot `s` of the ring, slot `s`'s semaphore -/

/-- The activations at home. -/
abbrev xM : Memref sig .tc .hbm S24x4096 .bf16 := Memref.whole main_v0
/-- The scales at home. -/
abbrev sM : Memref sig .tc .hbm S1x14336 .f32 := Memref.whole main_v1
/-- The weights at home. -/
abbrev wM : Memref sig .tc .hbm S14336x4096 .i8 := Memref.whole main_arg1
/-- The activations' buffer. -/
abbrev xB : Memref sig .tc .vmem S24x4096 .bf16 := Memref.whole cc0_scratch0
/-- The scales' buffer. -/
abbrev sB : Memref sig .tc .vmem S1x14336 .f32 := Memref.whole cc0_scratch1
/-- The ring of four weight slabs. -/
abbrev bufM : Memref sig .tc .vmem S4x1024x4096 .i8 := Memref.whole cc0_scratch2

/-- Where weight slab `b` begins. -/
abbrev grpOff (b : Fin 14) : Fin 2 → Nat := ![b.val * 1024, 0]
/-- Slab `b` lies in the weights. -/
theorem grpOff_inb (b : Fin 14) : ∀ a, grpOff b a + S1024x4096.size a ≤ S14336x4096.size a := by
  have := b.isLt; intro a; fin_cases a
  · show b.val * 1024 + 1024 ≤ 14336; omega
  · show 0 + 4096 ≤ 4096; omega
/-- Where slot `s` begins. -/
abbrev slotOff (s : Fin 4) : Fin 3 → Nat := ![s.val, 0, 0]
/-- Slot `s` lies in the ring. -/
theorem slotOff_inb (s : Fin 4) : ∀ a, slotOff s a + S1x1024x4096.size a ≤ S4x1024x4096.size a := by
  have := s.isLt; intro a; fin_cases a
  · show s.val + 1 ≤ 4; omega
  · show 0 + 1024 ≤ 1024; omega
  · show 0 + 4096 ≤ 4096; omega
/-- Where slot `s`'s semaphore is. -/
abbrev semOff (s : Fin 4) : Fin 1 → Nat := ![s.val]
/-- Slot `s`'s semaphore lies in the semaphore array. -/
theorem semOff_inb (s : Fin 4) : ∀ a, semOff s a + S1.size a ≤ S4.size a := by
  have := s.isLt; intro a; fin_cases a; show s.val + 1 ≤ 4; omega

/-- Slab `b` of the weights: 1024 of its rows, as the body slices it. -/
def grp (b : Fin 14) : Memref sig .tc .hbm S1024x4096 .i8 :=
  wM.slice (Rect.unit (s := S14336x4096) (grpOff b) S1024x4096.size (grpOff_inb b)) (fun _ => rfl)
/-- Slot `s` of the ring, as the body slices and squeezes it. -/
def rslot (s : Fin 4) : Memref sig .tc .vmem S1024x4096 .i8 :=
  (bufM.slice (Rect.unit (s := S4x1024x4096) (slotOff s) S1x1024x4096.size (slotOff_inb s)) (fun _ => rfl)).squeeze S1024x4096 squeezes_S1x1024x4096_S1024x4096
/-- Slot `s`'s DMA semaphore. -/
def csm (s : Fin 4) : DmaSems sig S_ := (cc0_scratch5.slice (Rect.unit (s := S4) (semOff s) S1.size (semOff_inb s))).squeeze S_ squeezes_S1_S_

instance (s : Fin 4) : ClosedOff (slotOff s) := ⟨slotOff s, rfl⟩
instance (b : Fin 14) : ClosedOff (grpOff b) := ⟨grpOff b, rfl⟩

/-! ## The trip's offsets in closed form -/

/-- The loop makes one trip per slab. -/
theorem trips_eq : k0_t1_loop.trips = 14 := by decide
/-- A trip's number is below 14. -/
theorem trip_lt (k : Fin k0_t1_loop.trips) : k.val < 14 := Nat.lt_of_lt_of_eq k.isLt trips_eq
/-- The semaphore waited on in trip `k` is slot `k mod 4`'s. -/
theorem off1_eq : ∀ k : Fin k0_t1_loop.trips, k0_off1 k = semOff (Ring.sl 4 k.val) := by decide +kernel
/-- The slot waited for in trip `k` is slot `k mod 4`. -/
theorem off2_eq : ∀ k : Fin k0_t1_loop.trips, k0_off2 k = slotOff (Ring.sl 4 k.val) := by decide +kernel
/-- The slab waited for in trip `k` is slab `k`. -/
theorem off3_eq : ∀ k : Fin k0_t1_loop.trips, k0_off3 k = grpOff (Ring.bk 14 k.val) := by decide +kernel
/-- Column `k * 1024` of row 0. -/
abbrev colOff2 (k : Nat) : Fin 2 → Nat := ![0, k * 1024]
/-- Trip `k` reads the scales from column `k * 1024`. -/
theorem off4_eq : ∀ k : Fin k0_t1_loop.trips, k0_off4 k = colOff2 k.val := by decide +kernel
/-- Trip `k` reads slot `k mod 4`. -/
theorem off5_eq : ∀ k : Fin k0_t1_loop.trips, k0_off5 k = slotOff (Ring.sl 4 k.val) := by decide +kernel
/-- Trip `k` stores from column `k * 1024`. -/
theorem off6_eq : ∀ k : Fin k0_t1_loop.trips, k0_off6 k = colOff2 k.val := by decide +kernel
/-- Trip `k` issues on slot `k mod 4`'s semaphore. -/
theorem off7_eq : ∀ k : Fin k0_t1_loop.trips, k0_off7 k = semOff (Ring.sl 4 k.val) := by decide +kernel
/-- Trip `k` issues into slot `k mod 4`. -/
theorem off8_eq : ∀ k : Fin k0_t1_loop.trips, k0_off8 k = slotOff (Ring.sl 4 k.val) := by decide +kernel
/-- Trip `k` issues slab `k + 4`, while there is one. -/
theorem off9_eq : ∀ k : Fin k0_t1_loop.trips, k.val + 4 < 14 → k0_off9 k = grpOff (Ring.bk 14 (k.val + 4)) := by decide +kernel
/-- A trip issues a slab exactly when four trips later there is one. -/
theorem cond_iff : ∀ k : Fin k0_t1_loop.trips, k0_cond1 k = 1#1 ↔ k.val + 4 < 14 := by decide +kernel

instance (k : Fin k0_t1_loop.trips) : ClosedOff (k0_off2 k) := ⟨slotOff (Ring.sl 4 k.val), off2_eq k⟩
instance (k : Fin k0_t1_loop.trips) : ClosedOff (k0_off5 k) := ⟨slotOff (Ring.sl 4 k.val), off5_eq k⟩
instance (k : Fin k0_t1_loop.trips) : ClosedOff (k0_off8 k) := ⟨slotOff (Ring.sl 4 k.val), off8_eq k⟩

section Canon

private theorem csm_congr {off : Fin 1 → Nat} {s : Fin 4} (e : off = semOff s) (hh) :
    (cc0_scratch5.slice (Rect.unit (s := S4) off S1.size hh)).squeeze S_ squeezes_S1_S_ = csm s :=
  congrArg (fun A : DmaSems sig S1 => A.squeeze S_ squeezes_S1_S_) (SemArray.slice_unit_congr _ e _ _)
private theorem rslot_congr {off : Fin 3 → Nat} {s : Fin 4} (e : off = slotOff s) (hh hs) :
    (bufM.slice (Rect.unit (s := S4x1024x4096) off S1x1024x4096.size hh) hs).squeeze S1024x4096 squeezes_S1x1024x4096_S1024x4096 = rslot s :=
  congrArg (fun M : Memref sig .tc .vmem S1x1024x4096 .i8 => M.squeeze S1024x4096 squeezes_S1x1024x4096_S1024x4096) (Memref.slice_unit_congr _ e _ _ _ _)
private theorem grp_congr {off : Fin 2 → Nat} {b : Fin 14} (e : off = grpOff b) (hh hs) :
    wM.slice (Rect.unit (s := S14336x4096) off S1024x4096.size hh) hs = grp b := Memref.slice_unit_congr _ e _ _ _ (fun _ => rfl)

@[sl_canon] theorem semL0 (hh) : (cc0_scratch5.slice (Rect.unit (s := S4) ![0] S1.size hh)).squeeze S_ squeezes_S1_S_ = csm 0 := csm_congr (by decide) _
@[sl_canon] theorem semL1 (hh) : (cc0_scratch5.slice (Rect.unit (s := S4) ![1] S1.size hh)).squeeze S_ squeezes_S1_S_ = csm 1 := csm_congr (by decide) _
@[sl_canon] theorem semL2 (hh) : (cc0_scratch5.slice (Rect.unit (s := S4) ![2] S1.size hh)).squeeze S_ squeezes_S1_S_ = csm 2 := csm_congr (by decide) _
@[sl_canon] theorem semL3 (hh) : (cc0_scratch5.slice (Rect.unit (s := S4) ![3] S1.size hh)).squeeze S_ squeezes_S1_S_ = csm 3 := csm_congr (by decide) _
@[sl_canon] theorem slotL0 (hh hs) : (bufM.slice (Rect.unit (s := S4x1024x4096) ![0, 0, 0] S1x1024x4096.size hh) hs).squeeze S1024x4096 squeezes_S1x1024x4096_S1024x4096 = rslot 0 := rslot_congr (by decide) _ _
@[sl_canon] theorem slotL1 (hh hs) : (bufM.slice (Rect.unit (s := S4x1024x4096) ![1, 0, 0] S1x1024x4096.size hh) hs).squeeze S1024x4096 squeezes_S1x1024x4096_S1024x4096 = rslot 1 := rslot_congr (by decide) _ _
@[sl_canon] theorem slotL2 (hh hs) : (bufM.slice (Rect.unit (s := S4x1024x4096) ![2, 0, 0] S1x1024x4096.size hh) hs).squeeze S1024x4096 squeezes_S1x1024x4096_S1024x4096 = rslot 2 := rslot_congr (by decide) _ _
@[sl_canon] theorem slotL3 (hh hs) : (bufM.slice (Rect.unit (s := S4x1024x4096) ![3, 0, 0] S1x1024x4096.size hh) hs).squeeze S1024x4096 squeezes_S1x1024x4096_S1024x4096 = rslot 3 := rslot_congr (by decide) _ _
@[sl_canon] theorem grpL0 (hh hs) : wM.slice (Rect.unit (s := S14336x4096) ![0, 0] S1024x4096.size hh) hs = grp 0 := grp_congr (by decide) _ _
@[sl_canon] theorem grpL1 (hh hs) : wM.slice (Rect.unit (s := S14336x4096) ![1024, 0] S1024x4096.size hh) hs = grp 1 := grp_congr (by decide) _ _
@[sl_canon] theorem grpL2 (hh hs) : wM.slice (Rect.unit (s := S14336x4096) ![2048, 0] S1024x4096.size hh) hs = grp 2 := grp_congr (by decide) _ _
@[sl_canon] theorem grpL3 (hh hs) : wM.slice (Rect.unit (s := S14336x4096) ![3072, 0] S1024x4096.size hh) hs = grp 3 := grp_congr (by decide) _ _
@[sl_canon] theorem semK (k : Fin k0_t1_loop.trips) (hh) :
    (cc0_scratch5.slice (Rect.unit (s := S4) (k0_off1 k) S1.size hh)).squeeze S_ squeezes_S1_S_ = csm (Ring.sl 4 k.val) := csm_congr (off1_eq k) _
@[sl_canon] theorem semI (k : Fin k0_t1_loop.trips) (hh) :
    (cc0_scratch5.slice (Rect.unit (s := S4) (k0_off7 k) S1.size hh)).squeeze S_ squeezes_S1_S_ = csm (Ring.sl 4 k.val) := csm_congr (off7_eq k) _
@[sl_canon] theorem slotK (k : Fin k0_t1_loop.trips) (hh hs) :
    (bufM.slice (Rect.unit (s := S4x1024x4096) (k0_off2 k) S1x1024x4096.size hh) hs).squeeze S1024x4096 squeezes_S1x1024x4096_S1024x4096 = rslot (Ring.sl 4 k.val) := rslot_congr (off2_eq k) _ _
@[sl_canon] theorem slotI (k : Fin k0_t1_loop.trips) (hh hs) :
    (bufM.slice (Rect.unit (s := S4x1024x4096) (k0_off8 k) S1x1024x4096.size hh) hs).squeeze S1024x4096 squeezes_S1x1024x4096_S1024x4096 = rslot (Ring.sl 4 k.val) := rslot_congr (off8_eq k) _ _
@[sl_canon] theorem grpW (k : Fin k0_t1_loop.trips) (hh hs) :
    wM.slice (Rect.unit (s := S14336x4096) (k0_off3 k) S1024x4096.size hh) hs = grp (Ring.bk 14 k.val) := grp_congr (off3_eq k) _ _
@[sl_canon] theorem grpI (k : Fin k0_t1_loop.trips) (hk : k.val + 4 < 14) (hh hs) :
    wM.slice (Rect.unit (s := S14336x4096) (k0_off9 k) S1024x4096.size hh) hs = grp (Ring.bk 14 (k.val + 4)) := grp_congr (off9_eq k hk) _ _

end Canon

/-! ## The pieces: a slab at rest, a slot held, a slot's semaphore, a slab in flight -/

section Pieces
variable (c : Dev nD) (XA : Buf (Elt F) (wM.view.loc (c : Thread nD τ)))

/-- Slot `s`'s semaphore at zero. -/
abbrev cellP (s : Fin 4) : sProp 𝕄 := semVal ((c : Thread nD τ), SemLoc.dma (csm s).sem) 0
/-- Slot `s` of the ring, owned with contents `f`. -/
abbrev slotP (s : Fin 4) (f : Buf (Elt F) ((rslot s).view.loc (c : Thread nD τ))) : sProp 𝕄 :=
  (rslot s).view.loc (c : Thread nD τ) ↦[(rslot s).view.set]{fullShare} f
/-- Slab `b` at rest: held on its elements at the weights' contents. -/
abbrev homeP (b : Fin 14) : sProp 𝕄 := (grp b).view.loc (c : Thread nD τ) ↦[(grp b).view.set]{fullShare} XA
/-- What slab `b`'s transfer leaves in slot `s` over prior contents `f`. -/
abbrev landed (s : Fin 4) (b : Fin 14) (f : Buf (Elt F) ((rslot s).view.loc (c : Thread nD τ))) : Buf (Elt F) ((rslot s).view.loc (c : Thread nD τ)) :=
  (rslot s).view.writes (Elt F) f [⟨Rect.whole S1024x4096, ReadAs.same.apply ((grp b).view.read (Elt F) XA)⟩]
/-- A slab's transfer moves this many units on its semaphore. -/
abbrev NN (s : Fin 4) : ℕ := 131072
/-- Slot `s` in flight with slab `b`, issued over `f`. -/
abbrev flightP (s : Fin 4) (b : Fin 14) (f : Buf (Elt F) ((rslot s).view.loc (c : Thread nD τ))) : sProp 𝕄 :=
  Transfers.Flight countersEmb (c : Thread nD τ) (SemLoc.dma (csm s).sem) () (NN s) iprop(slotP c s (landed c XA s b f) ∗ homeP c XA b)
/-- Slot `s` free: its semaphore at zero, its elements at anything. -/
abbrev freeP (s : Fin 4) : sProp 𝕄 := iprop(∃ f, cellP c s ∗ slotP c s f)
/-- The slot that slab `n` uses: in flight with it, or free when there is no slab `n`. -/
def stageP (n : ℕ) : sProp 𝕄 := if n < 14 then iprop(∃ f, flightP c XA (Ring.sl 4 n) (Ring.bk 14 n) f) else freeP c (Ring.sl 4 n)

/-- A stage below 14 is a slab in flight. -/
theorem stage_in (n : ℕ) (h : n < 14) : stageP c XA n = iprop(∃ f, flightP c XA (Ring.sl 4 n) (Ring.bk 14 n) f) := if_pos h
/-- A stage past the last slab is a free slot. -/
theorem stage_out (n : ℕ) (h : ¬ n < 14) : stageP c XA n = freeP c (Ring.sl 4 n) := if_neg h

/-- Before trip `k` the slab about to go out apart from the other slabs at rest; -/
theorem homes_here (k : ℕ) (hk : k + 4 < 14) :
    bigSep (Ring.homeSet 4 k) (homeP c XA) = iprop(homeP c XA (Ring.bk 14 (k + 4)) ∗ bigSep ((Ring.homeSet 4 k).erase (Ring.bk 14 (k + 4))) (homeP c XA)) := by
  conv_lhs => rw [Ring.homeSet_out 4 k hk, bigSep_insert (Ring.bkL_not_mem_erase 4 k)]
  rfl
/-- after it, the slab just back beside those. -/
theorem homes_next (k : ℕ) (hk : k + 4 < 14) :
    bigSep (Ring.homeSet 4 (k + 1)) (homeP c XA) = iprop(homeP c XA (Ring.bk 14 k) ∗ bigSep ((Ring.homeSet 4 k).erase (Ring.bk 14 (k + 4))) (homeP c XA)) := by
  conv_lhs => rw [Ring.homeSet_succ 4 k hk, bigSep_insert (Ring.bk_not_mem_erase 4 k (by omega) (by decide))]
  rfl
/-- Near the end, where nothing goes out, the slab just back beside all the others. -/
theorem homes_tail (k : ℕ) (h : 14 ≤ k + 4) (hk : k < 14) :
    bigSep (Ring.homeSet 4 (k + 1)) (homeP c XA) = iprop(homeP c XA (Ring.bk 14 k) ∗ bigSep (Ring.homeSet 4 k) (homeP c XA)) := by
  conv_lhs => rw [Ring.homeSet_succ_tail 4 k h hk, bigSep_insert (Ring.bk_not_mem_homeSet 4 k hk (by decide))]
  rfl

/-- Slab `b`'s words as a slot's payload. -/
abbrev payload (b : Fin 14) : S1024x4096.Idx → Elt F .i8 := ReadAs.same.apply ((grp b).view.read (Elt F) XA)
/-- Slot `s` with slab `b` landed in it. -/
abbrev landedJ (s : Fin 4) (b : Fin 14) : Buf (Elt F) ((rslot s).view.loc (c : Thread nD τ)) :=
  (rslot s).view.writes (Elt F) (rslot s).view.junk [⟨Rect.whole S1024x4096, payload c XA b⟩]
/-- The transfer a trip issues goes into the slot as the slab before it left it. -/
theorem flightP_after (s : Fin 4) (b b' : Fin 14) :
    flightP c XA s b' (landedJ c XA s b)
      = Transfers.Flight countersEmb (c : Thread nD τ) (SemLoc.dma (csm s).sem) () 131072
          iprop(((rslot s).view.loc (c : Thread nD τ) ↦[(rslot s).view.set]{fullShare}
                  (rslot s).view.writes (Elt F) (rslot s).view.junk [⟨Rect.whole S1024x4096, payload c XA b'⟩, ⟨Rect.whole S1024x4096, payload c XA b⟩])
                ∗ homeP c XA b') := by
  simp only [flightP, landed, landedJ, slotP, NN, View.writes]

end Pieces

section Trip

variable (c : Dev nD) (XA : Buf (Elt F) (wM.view.loc (c : Thread nD τ)))
  (arg3 : Memref sig .tc .vmem S24x14336 .bf16) (harg3 : arg3.IsWhole)
  (fx : Buf (Elt F) (xB.view.loc (c : Thread nD τ))) (fs : Buf (Elt F) (sB.view.loc (c : Thread nD τ)))

/-- The result's staging buffer. -/
abbrev oP (fo : Buf (Elt F) (arg3.view.loc (c : Thread nD τ))) : sProp 𝕄 := arg3.view.loc (c : Thread nD τ) ↦[arg3.view.set]{fullShare} fo
/-- The activations' buffer, owned. -/
abbrev xP : sProp 𝕄 := xB.view.loc (c : Thread nD τ) ↦[xB.view.set]{fullShare} fx
/-- The scales' buffer, owned. -/
abbrev sP : sProp 𝕄 := sB.view.loc (c : Thread nD τ) ↦[sB.view.set]{fullShare} fs

/-- What is held before trip `k`, the result's buffer at `fo`. -/
def resAt (k : ℕ) (fo : Buf (Elt F) (arg3.view.loc (c : Thread nD τ))) : sProp 𝕄 :=
  iprop(oP c arg3 fo ∗ xP c fx ∗ sP c fs ∗ (∃ W, owes (c : Thread nD τ) 0 W)
    ∗ bigSep (Ring.homeSet 4 k) (homeP c XA)
    ∗ stageP c XA k ∗ stageP c XA (k + 1) ∗ stageP c XA (k + 2) ∗ stageP c XA (k + 3))

/-- The program of one trip. -/
abbrev tripG (k : Fin k0_t1_loop.trips) : Prog (TpuEff nD τ sig (Elt F) Λ₀ .tc) Unit :=
  k0_t1_body (F := F) xM (Memref.isWhole_whole _) sM (Memref.isWhole_whole _) wM (Memref.isWhole_whole _) arg3 harg3 xB (Memref.isWhole_whole _) sB (Memref.isWhole_whole _) bufM (Memref.isWhole_whole _) cc0_scratch3 cc0_scratch4 cc0_scratch5 k ()

/-- The columns trip `k` stores. -/
abbrev outRect (k : Fin k0_t1_loop.trips) : Rect S24x14336 := Rect.unit (s := S24x14336) (k0_off6 k) S24x1024.size (k0_off6_inb k)

/-- Trip `k`'s scale row: its 1024 columns of the scales. -/
abbrev sRow (k : Fin k0_t1_loop.trips) : FVec F S1x1024 .f32 := sB.view.readAt (Elt F) (Rect.unit (s := S1x14336) (k0_off4 k) S1x1024.size (k0_off4_inb k)).toLoadRect fs
/-- Trip `k`'s weight slab, as the body loads it from its slot. -/
abbrev wRows (k : Fin k0_t1_loop.trips) : IVec S1x1024x4096 8 :=
  bufM.view.readAt (Elt F) (Rect.unit (s := S4x1024x4096) (k0_off5 k) S1x1024x4096.size (k0_off5_inb k)).toLoadRect (landedJ c XA (Ring.sl 4 k.val) (Ring.bk 14 k.val))
/-- The activations, as the body loads them. -/
abbrev xAll : FVec F S24x4096 .bf16 := xB.view.readAt (Elt F) (Rect.unit (s := S24x4096) ![0, 0] S24x4096.size inb_S24x4096_S24x4096_0_0).toLoadRect fx
/-- What trip `k` stores: the product, rounded. -/
def outV (k : Fin k0_t1_loop.trips) : (outRect k).shape.Idx → Elt F .bf16 := k0_pay1 (sRow c fs k) (wRows c XA k) (xAll c fx)

/-- A trip while there is a slab left to issue. -/
theorem trip_more (k : Fin k0_t1_loop.trips) (hk4 : k.val + 4 < 14) (fo : Buf (Elt F) (arg3.view.loc (c : Thread nD τ))) :
    resAt c XA arg3 fx fs k fo ⊢ wp frame (wpE (defs₀ (F := F)) 𝒱₀ (c : Thread nD τ) none) Set.univ (tripG arg3 harg3 k)
        (fun _ => resAt c XA arg3 fx fs (k.val + 1) (arg3.view.writes (Elt F) fo [⟨outRect k, outV c XA fx fs k⟩])) := by
  have hk := trip_lt k
  have hc : k0_cond1 k = 1#1 := (cond_iff k).2 hk4
  unfold resAt
  rw [homes_here c XA k.val hk4, homes_next c XA k.val hk4, stage_in c XA k.val hk]
  iintro ⟨HO, HX, HS, ⟨%W, HW⟩, ⟨Hg, Hrest⟩, ⟨%f0, HF0⟩, H1, H2, H3⟩
  dsimp only [tripG]
  sl_unfold [k0_t1_body]
  sl_exec
  sl_step
  rw [show k.val + 1 + 1 = k.val + 2 from rfl, show k.val + 1 + 2 = k.val + 3 from rfl, show k.val + 1 + 3 = k.val + 4 from rfl, stage_in c XA (k.val + 4) hk4, Ring.sl_add 4 k.val]
  isplitl [HO]; · iexact HO
  isplitl [HX]; · iexact HX
  isplitl [HS]; · iexact HS
  isplitl [HW]; · iexists _; iexact HW
  isplitl [HF0_src Hrest]
  · isplitl [HF0_src]; · iexact HF0_src
    iexact Hrest
  isplitl [H1]; · iexact H1
  isplitl [H2]; · iexact H2
  isplitl [H3]; · iexact H3
  iexists (landedJ c XA (Ring.sl 4 k.val) (Ring.bk 14 k.val))
  irw [flightP_after]
  iexact HF0

/-- A trip near the end: nothing goes out, and the slot it emptied stays free. -/
theorem trip_last (k : Fin k0_t1_loop.trips) (hk4 : ¬ k.val + 4 < 14) (fo : Buf (Elt F) (arg3.view.loc (c : Thread nD τ))) :
    resAt c XA arg3 fx fs k fo ⊢ wp frame (wpE (defs₀ (F := F)) 𝒱₀ (c : Thread nD τ) none) Set.univ (tripG arg3 harg3 k)
        (fun _ => resAt c XA arg3 fx fs (k.val + 1) (arg3.view.writes (Elt F) fo [⟨outRect k, outV c XA fx fs k⟩])) := by
  have hk := trip_lt k
  have hc : ¬ k0_cond1 k = 1#1 := fun h => hk4 ((cond_iff k).1 h)
  unfold resAt
  rw [homes_tail c XA k.val (by omega) hk, stage_in c XA k.val hk]
  iintro ⟨HO, HX, HS, ⟨%W, HW⟩, Hrest, ⟨%f0, HF0⟩, H1, H2, H3⟩
  dsimp only [tripG]
  sl_unfold [k0_t1_body]
  sl_exec
  sl_step
  rw [show k.val + 1 + 1 = k.val + 2 from rfl, show k.val + 1 + 2 = k.val + 3 from rfl, show k.val + 1 + 3 = k.val + 4 from rfl, stage_out c XA (k.val + 4) hk4, Ring.sl_add 4 k.val]
  isplitl [HO]; · iexact HO
  isplitl [HX]; · iexact HX
  isplitl [HS]; · iexact HS
  isplitl [HW]; · iexists _; iexact HW
  isplitl [HF0_src Hrest]
  · isplitl [HF0_src]; · iexact HF0_src
    iexact Hrest
  isplitl [H1]; · iexact H1
  isplitl [H2]; · iexact H2
  isplitl [H3]; · iexact H3
  iexists _
  isplitl [HF0]; · iexact HF0
  iexact HF0_dst

/-- The result's buffer before trip `k`: from `o0` at the loop's entry, each trip's 1024 columns written on. -/
def oAcc (o0 : Buf (Elt F) (arg3.view.loc (c : Thread nD τ))) : ℕ → Buf (Elt F) (arg3.view.loc (c : Thread nD τ))
  | 0 => o0
  | k + 1 => if h : k < k0_t1_loop.trips then arg3.view.writes (Elt F) (oAcc o0 k) [⟨outRect ⟨k, h⟩, outV c XA fx fs ⟨k, h⟩⟩] else oAcc o0 k

/-- One more trip is one more write. -/
theorem oAcc_succ (o0 : Buf (Elt F) (arg3.view.loc (c : Thread nD τ))) (k : Fin k0_t1_loop.trips) :
    oAcc c XA arg3 fx fs o0 (k.val + 1) = arg3.view.writes (Elt F) (oAcc c XA arg3 fx fs o0 k) [⟨outRect k, outV c XA fx fs k⟩] := by
  rw [oAcc, dif_pos k.isLt]

set_option warn.classDefReducibility false in
/-- The loop's invariant: what is held before trip `k`, the result written up to it. -/
@[sl_loop] def loopInv1 (o0 : Buf (Elt F) (arg3.view.loc (c : Thread nD τ))) :
    LoopInvTy_k0_t1 (F := F) Unit ℕ (UU nD τ) ℕ 𝒱₀ c none Set.univ xM (Memref.isWhole_whole _) sM (Memref.isWhole_whole _) wM (Memref.isWhole_whole _) arg3 harg3 xB (Memref.isWhole_whole _) sB (Memref.isWhole_whole _) bufM (Memref.isWhole_whole _) cc0_scratch3 cc0_scratch4 cc0_scratch5 where
  inv k _ := resAt c XA arg3 fx fs k (oAcc c XA arg3 fx fs o0 k)
  step k _ := by
    rw [oAcc_succ]
    by_cases h4 : k.val + 4 < 14
    · exact trip_more c XA arg3 harg3 fx fs k h4 _
    · exact trip_last c XA arg3 harg3 fx fs k h4 _

end Trip

/-! ## The kernel body -/

section Run

variable (c : Dev nD) (XA : Buf (Elt F) (wM.view.loc (c : Thread nD τ)))
  (X0 : Buf (Elt F) (xM.view.loc (c : Thread nD τ))) (S0 : Buf (Elt F) (sM.view.loc (c : Thread nD τ)))
  (arg3 : Memref sig .tc .vmem S24x14336 .bf16) (harg3 : arg3.IsWhole)

/-- The body on the result's staging buffer, everything else its own. -/
abbrev bodyG : Prog (TpuEff nD τ sig (Elt F) Λ₀ .tc) PUnit :=
  cc0__linear_kernel xM (Memref.isWhole_whole _) sM (Memref.isWhole_whole _) wM (Memref.isWhole_whole _) arg3 harg3 xB (Memref.isWhole_whole _) sB (Memref.isWhole_whole _) bufM (Memref.isWhole_whole _) cc0_scratch3 cc0_scratch4 cc0_scratch5

/-- The activations at home, owned. -/
abbrev xHome : sProp 𝕄 := xM.view.loc (c : Thread nD τ) ↦[xM.view.set]{fullShare} X0
/-- The scales at home, owned. -/
abbrev sHome : sProp 𝕄 := sM.view.loc (c : Thread nD τ) ↦[sM.view.set]{fullShare} S0
/-- The activations' semaphore at zero. -/
abbrev cellX : sProp 𝕄 := semVal ((c : Thread nD τ), SemLoc.dma cc0_scratch3.sem) 0
/-- The scales' semaphore at zero. -/
abbrev cellS : sProp 𝕄 := semVal ((c : Thread nD τ), SemLoc.dma cc0_scratch4.sem) 0

/-- The activations, copied into their scratch buffer. -/
abbrev xIn : Buf (Elt F) (xB.view.loc (c : Thread nD τ)) := xB.view.writes (Elt F) xB.view.junk [⟨Rect.whole S24x4096, ReadAs.same.apply (xM.view.read (Elt F) X0)⟩]
/-- The scales, copied into theirs. -/
abbrev sIn : Buf (Elt F) (sB.view.loc (c : Thread nD τ)) := sB.view.writes (Elt F) sB.view.junk [⟨Rect.whole S1x14336, ReadAs.same.apply (sM.view.read (Elt F) S0)⟩]

/-- What the body is handed. -/
abbrev PRE (gO : Buf (Elt F) (arg3.view.loc (c : Thread nD τ))) (W : Waits sig Unit) : sProp 𝕄 :=
  iprop(xHome c X0 ∗ sHome c S0 ∗ oP c arg3 gO ∗ (∃ f, xP c f) ∗ (∃ f, sP c f)
    ∗ (homeP c XA 0 ∗ homeP c XA 1 ∗ homeP c XA 2 ∗ homeP c XA 3 ∗ bigSep (Ring.homeSet 4 0) (homeP c XA))
    ∗ (freeP c 0 ∗ freeP c 1 ∗ freeP c 2 ∗ freeP c 3) ∗ cellX c ∗ cellS c ∗ owes (c : Thread nD τ) 0 W)
/-- What it hands back, the result's buffer at `out`. -/
abbrev POST (out : Buf (Elt F) (arg3.view.loc (c : Thread nD τ))) : sProp 𝕄 :=
  iprop(xHome c X0 ∗ sHome c S0 ∗ oP c arg3 out ∗ (∃ f, xP c f) ∗ (∃ f, sP c f)
    ∗ bigSep Finset.univ (homeP c XA)
    ∗ (freeP c 0 ∗ freeP c 1 ∗ freeP c 2 ∗ freeP c 3) ∗ cellX c ∗ cellS c ∗ ∃ W, owes (c : Thread nD τ) 0 W)

/-- After the last trip every slab is back. -/
theorem homes_all : bigSep (Ring.homeSet 4 14) (homeP c XA) = bigSep Finset.univ (homeP c XA) := by
  congr 1

/-- At the loop's entry the four slots are in flight with slabs 0 to 3. -/
theorem stage0 : stageP c XA 0 = iprop(∃ f, flightP c XA 0 0 f) := stage_in c XA 0 (by decide)
/-- Slab 1 is in flight to slot 1 at the start. -/
theorem stage1 : stageP c XA (0 + 1) = iprop(∃ f, flightP c XA 1 1 f) := stage_in c XA 1 (by decide)
/-- Slab 2 is in flight to slot 2 at the start. -/
theorem stage2 : stageP c XA (0 + 2) = iprop(∃ f, flightP c XA 2 2 f) := stage_in c XA 2 (by decide)
/-- Slab 3 is in flight to slot 3 at the start. -/
theorem stage3 : stageP c XA (0 + 3) = iprop(∃ f, flightP c XA 3 3 f) := stage_in c XA 3 (by decide)
/-- A slot's semaphore and elements, under another name of the slot. -/
theorem free_of {s s' : Fin 4} (h : s = s') (f : Buf (Elt F) ((rslot s).view.loc (c : Thread nD τ))) : iprop(cellP c s ∗ slotP c s f) ⊢ freeP c s' := by
  subst h; iintro H; iexists f; iexact H

attribute [local sl_canon] stage0 stage1 stage2 stage3 in
/-- The body: the two copies in, the first four slabs issued, the loop by its invariant. -/
theorem bodyRun (gO W) (Q : PUnit → sProp 𝕄) :
    iprop(PRE c XA X0 S0 arg3 gO W ∗ (POST c XA X0 S0 arg3 (oAcc c XA arg3 (xIn c X0) (sIn c S0) gO 14) -∗ Q ⟨⟩))
      ⊢ wp frame (wpE (defs₀ (F := F)) 𝒱₀ (c : Thread nD τ) none) Set.univ (bodyG arg3 harg3) Q := by
  iintro ⟨⟨HX0, HS0, HO, ⟨%fx, HX⟩, ⟨%fs, HS⟩, ⟨Hg0, Hg1, Hg2, Hg3, Hh⟩, ⟨⟨%f0, Hc0, Hs0⟩, ⟨%f1, Hc1, Hs1⟩, ⟨%f2, Hc2, Hs2⟩, ⟨%f3, Hc3, Hs3⟩⟩, HcX, HcS, HW⟩, Hk⟩
  sl_exec
  sl_step
  iapply Hk
  isplitl [HX0]; · iexact HX0
  isplitl [HS0]; · iexact HS0
  isplitl [HO]; · iexact HO
  isplitl [HX]; · iexists _; iexact HX
  isplitl [HS]; · iexists _; iexact HS
  isplitl [Hh]
  · iapply (entails_of_eq (homes_all c XA)); iexact Hh
  isplitl [Hc0 Hc1 Hc2 Hc3]
  · isplitl [Hc2]; · iapply (free_of c (s := Ring.sl 4 (k0_t1_loop.trips + 2)) (s' := 0) (by decide) _); iexact Hc2
    isplitl [Hc3]; · iapply (free_of c (s := Ring.sl 4 (k0_t1_loop.trips + 3)) (s' := 1) (by decide) _); iexact Hc3
    isplitl [Hc0]; · iapply (free_of c (s := Ring.sl 4 (k0_t1_loop.trips)) (s' := 2) (by decide) _); iexact Hc0
    iapply (free_of c (s := Ring.sl 4 (k0_t1_loop.trips + 1)) (s' := 3) (by decide) _); iexact Hc1
  isplitl [HcX]; · iexact HcX
  isplitl [HcS]; · iexact HcS
  iexists _; iexact HW

/-- Column `q` of the result is column `q % 1024` of what trip `q / 1024` stores. -/
def outArr (fx : Buf (Elt F) (xB.view.loc (c : Thread nD τ))) (fs : Buf (Elt F) (sB.view.loc (c : Thread nD τ))) (y : S24x14336.Idx) : Elt F .bf16 :=
  outV c XA fx fs ⟨(y 1).val / 1024, by rw [trips_eq]; have : (y 1).val < 14336 := (y 1).isLt; omega⟩
    ((fun a => match a with | 0 => ⟨(y 0).val, (y 0).isLt⟩ | 1 => ⟨(y 1).val % 1024, Nat.mod_lt _ (by decide)⟩ : S24x1024.Idx))

/-- Before trip `k` the columns of the trips before it are written. -/
theorem read_oAcc (fx : Buf (Elt F) (xB.view.loc (c : Thread nD τ))) (fs : Buf (Elt F) (sB.view.loc (c : Thread nD τ)))
    (o0 : Buf (Elt F) (arg3.view.loc (c : Thread nD τ))) : ∀ k : ℕ, k ≤ 14 → ∀ y : S24x14336.Idx, (y 1).val < k * 1024 →
      arg3.view.read (Elt F) (oAcc c XA arg3 fx fs o0 k) y = outArr c XA fx fs y
  | 0, _, y, h => absurd h (by omega)
  | k + 1, hk, y, h => by
    have hT : k < k0_t1_loop.trips := by rw [trips_eq]; omega
    rw [show oAcc c XA arg3 fx fs o0 (k + 1) = _ from oAcc_succ c XA arg3 fx fs o0 ⟨k, hT⟩]
    by_cases hb : (y 1).val < k * 1024
    · rw [View.read_writes_cons_unit_of_not_mem arg3.view _ _ _ _ y (off6_eq ⟨k, hT⟩) (1 : Fin 2) (Or.inl hb)]
      exact read_oAcc fx fs o0 k (by omega) y hb
    · have hq : (y 1).val / 1024 = k := by omega
      have hx : (⟨(y 1).val / 1024, by rw [trips_eq]; have : (y 1).val < 14336 := (y 1).isLt; omega⟩ : Fin k0_t1_loop.trips) = ⟨k, hT⟩ := Fin.ext hq
      unfold outArr; rw [hx]
      refine View.read_writes_cons_unit_of_mem arg3.view _ _ _ _ y _ (off6_eq ⟨k, hT⟩) fun a => ?_
      match a with
      | 0 => show (y 0).val = 0 + (y 0).val; omega
      | 1 => show (y 1).val = k * 1024 + (y 1).val % 1024; omega

/-- The result's buffer after the loop, whatever it held. -/
theorem read_out (fx : Buf (Elt F) (xB.view.loc (c : Thread nD τ))) (fs : Buf (Elt F) (sB.view.loc (c : Thread nD τ)))
    (o0 : Buf (Elt F) (arg3.view.loc (c : Thread nD τ))) : arg3.view.read (Elt F) (oAcc c XA arg3 fx fs o0 14) = outArr c XA fx fs :=
  funext fun y => read_oAcc c XA arg3 fx fs o0 14 le_rfl y (y 1).isLt

end Run

/-! ## The weights whole are their fourteen slabs, the ring whole its four slots -/

/-- The entries of weight slab `b`. -/
abbrev G14 (b : Fin 14) : Finset S14336x4096.Idx := (Rect.unit (s := S14336x4096) (grpOff b) S1024x4096.size (grpOff_inb b)).set
/-- The entries of slot `s`. -/
abbrev S4s (s : Fin 4) : Finset S4x1024x4096.Idx := (Rect.unit (s := S4x1024x4096) (slotOff s) S1x1024x4096.size (slotOff_inb s)).set

/-- Slab `b`'s memref covers the entries of slab `b`. -/
theorem grp_set (b : Fin 14) : (grp b : Memref sig .tc .hbm _ _).view.set = G14 b := View.set_slice_whole _ _
/-- Slot `s`'s memref covers the entries of slot `s`. -/
theorem rslot_set (s : Fin 4) : (rslot s : Memref sig .tc .vmem _ _).view.set = S4s s := (View.set_reshape _ _).trans (View.set_slice_whole _ _)

/-- An entry is of slab `b` when its row is. -/
theorem mem_G14 (b : Fin 14) (y : S14336x4096.Idx) : y ∈ G14 b ↔ (y 0).val / 1024 = b.val := by
  rw [Rect.mem_set_unit]
  have h1 : (y 1).val < 4096 := (y 1).isLt
  constructor
  · intro H; have a0 : b.val * 1024 ≤ (y 0).val ∧ (y 0).val < b.val * 1024 + 1024 := H 0; omega
  · intro H i; fin_cases i
    · show b.val * 1024 ≤ (y 0).val ∧ (y 0).val < b.val * 1024 + 1024; omega
    · show 0 ≤ (y 1).val ∧ (y 1).val < 0 + 4096; omega
/-- An entry is of slot `s` when its leading index is. -/
theorem mem_S4s (s : Fin 4) (y : S4x1024x4096.Idx) : y ∈ S4s s ↔ (y 0).val = s.val := by
  rw [Rect.mem_set_unit]
  have h1 : (y 1).val < 1024 := (y 1).isLt
  have h2 : (y 2).val < 4096 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 4096; omega
theorem G14_disjoint : ∀ b b' : Fin 14, b ≠ b' → Disjoint (G14 b) (G14 b') := by
  intro b b' hne; rw [Finset.disjoint_left]; intro y hy hy'; rw [mem_G14] at hy hy'; exact hne (Fin.ext (hy.symm.trans hy'))
theorem G14_cover : (Finset.univ : Finset (Fin 14)).biUnion G14 = Finset.univ := by
  ext y; simp only [Finset.mem_biUnion, Finset.mem_univ, true_and, iff_true]
  exact ⟨⟨(y 0).val / 1024, by have : (y 0).val < 14336 := (y 0).isLt; omega⟩, by rw [mem_G14]⟩
theorem S4s_disjoint : ∀ s s' : Fin 4, s ≠ s' → Disjoint (S4s s) (S4s s') := by
  intro s s' hne; rw [Finset.disjoint_left]; intro y hy hy'; rw [mem_S4s] at hy hy'; exact hne (Fin.ext (hy.symm.trans hy'))
theorem S4s_cover : (Finset.univ : Finset (Fin 4)).biUnion S4s = Finset.univ := by
  ext y; simp only [Finset.mem_biUnion, Finset.mem_univ, true_and, iff_true]; exact ⟨(y 0).cast (by decide), by rw [mem_S4s]; rfl⟩

omit [FloatOps F] in
/-- Four pieces written out. -/
theorem bigSep_fin4 (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

/-- The weights whole are their slabs at rest; -/
theorem w_eq (c : Dev nD) (X : Buf (Elt F) (wM.view.loc (c : Thread nD τ))) :
    (((c : Thread nD τ).loc main_arg1) ↦{fullShare} X : sProp 𝕄) = bigSep Finset.univ (homeP c X) := by
  rw [Ring.pointsTo_blocks (ℓ := (c : Thread nD τ).loc main_arg1) G14 G14_disjoint G14_cover]
  exact bigSep_congr fun b _ => by rw [← grp_set]; rfl
/-- at the body's entry the first four apart from the rest. -/
theorem homes_zero (c : Dev nD) (X : Buf (Elt F) (wM.view.loc (c : Thread nD τ))) :
    bigSep Finset.univ (homeP c X) = iprop(homeP c X 0 ∗ homeP c X 1 ∗ homeP c X 2 ∗ homeP c X 3 ∗ bigSep (Ring.homeSet 4 0) (homeP c X)) := by
  have e : (Finset.univ : Finset (Fin 14)) = insert 0 (insert 1 (insert 2 (insert 3 (Ring.homeSet (NB := 14) 4 0)))) := by decide
  rw [e, bigSep_insert (by decide), bigSep_insert (by decide), bigSep_insert (by decide), bigSep_insert (by decide)]; rfl

/-- A slot owned is its entries of the ring owned. -/
theorem slotP_eq (c : Dev nD) (s : Fin 4) (f) : slotP c s f = (((c : Thread nD τ).loc cc0_scratch2) ↦[S4s s]{fullShare} f : sProp 𝕄) :=
  congrArg (fun S => (_ ↦[S]{fullShare} f : sProp 𝕄)) (rslot_set s)
/-- The ring whole is its four slots, -/
theorem buf_split (c : Dev nD) :
    iprop(∃ f : Buf (Elt F) ((c : Thread nD τ).loc cc0_scratch2), ((c : Thread nD τ).loc cc0_scratch2) ↦{fullShare} f)
      ⊢ (iprop((∃ f, slotP c 0 f) ∗ (∃ f, slotP c 1 f) ∗ (∃ f, slotP c 2 f) ∗ ∃ f, slotP c 3 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch2) S4s S4s_disjoint S4s_cover f).trans (bigSep_fin4 _))) $$ H
  icases H2 with ⟨H0, H1, H2, H3⟩
  isplitl [H0]; · iexists f; iapply (entails_of_eq (slotP_eq c 0 f).symm); iexact H0
  isplitl [H1]; · iexists f; iapply (entails_of_eq (slotP_eq c 1 f).symm); iexact H1
  isplitl [H2]; · iexists f; iapply (entails_of_eq (slotP_eq c 2 f).symm); iexact H2
  iexists f; iapply (entails_of_eq (slotP_eq c 3 f).symm); iexact H3
/-- and back. -/
theorem buf_join (c : Dev nD) :
    iprop((∃ f, slotP c 0 f) ∗ (∃ f, slotP c 1 f) ∗ (∃ f, slotP c 2 f) ∗ ∃ f, slotP c 3 f)
      ⊢ (iprop(∃ f : Buf (Elt F) ((c : Thread nD τ).loc cc0_scratch2), ((c : Thread nD τ).loc cc0_scratch2) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch2) S4s S4s_disjoint S4s_cover f0)
  irw [bigSep_fin4]
  isplitl [H0]; · iexists f0; iapply (entails_of_eq (slotP_eq c 0 f0)); iexact H0
  isplitl [H1]; · iexists f1; iapply (entails_of_eq (slotP_eq c 1 f1)); iexact H1
  isplitl [H2]; · iexists f2; iapply (entails_of_eq (slotP_eq c 2 f2)); iexact H2
  iexists f3; iapply (entails_of_eq (slotP_eq c 3 f3)); iexact H3

/-! ## The launch -/

/-- The kernel's own DMA semaphores: the two copies' and the ring's four. -/
abbrev osem : Fin 6 → SemLoc sig := ![.dma cc0_scratch3.sem, .dma cc0_scratch4.sem, .dma (csm 0).sem, .dma (csm 1).sem, .dma (csm 2).sem, .dma (csm 3).sem]
/-- The kernel's own semaphores are none of the pipeline's. -/
theorem ownSemFacts : Pipeline.OwnSemFacts spec0 osem := by decide
/-- The buffers the body reads by its own transfers. -/
abbrev HH : Finset (Ref sig .tc) := {main_v0, main_v1, main_arg1}

omit [FloatOps F] in
/-- Six pieces written out. -/
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [(0 : Fin 6), 1, 2, 3, 4, 5] (by decide) (by decide) Φ
/-- The kernel's own semaphores, written out. -/
theorem ownSems0_eq (c : Dev nD) : (Pipeline.ownSems0 (Ix := Unit) (Name := ℕ) (U := UU nD τ) (Lvl := ℕ) (Val := Elt F) (τ := τ) osem c : sProp 𝕄)
    = iprop(cellX c ∗ cellS c ∗ cellP c 0 ∗ cellP c 1 ∗ cellP c 2 ∗ cellP c 3) := by
  unfold Pipeline.ownSems0; rw [bigSep_fin6]; rfl
/-- The three arrays at home, written out. -/
theorem bigSep_HH (Φ : Ref sig .tc → sProp 𝕄) : bigSep HH Φ = iprop(Φ main_v0 ∗ Φ main_v1 ∗ Φ main_arg1) := by
  rw [bigSep_insert (by decide), bigSep_insert (by decide), bigSep_singleton]; rfl

/-- What the body may use beside the result's buffer, the same before and after its one point. -/
def ΦG (c : Dev nD) (X0 : Buf (Elt F) (xM.view.loc (c : Thread nD τ))) (S0 : Buf (Elt F) (sM.view.loc (c : Thread nD τ)))
    (XA : Buf (Elt F) (wM.view.loc (c : Thread nD τ))) : sProp 𝕄 :=
  iprop(xHome c X0 ∗ sHome c S0 ∗ (∃ f, xP c f) ∗ (∃ f, sP c f)
    ∗ bigSep Finset.univ (homeP c XA)
    ∗ (freeP c 0 ∗ freeP c 1 ∗ freeP c 2 ∗ freeP c 3) ∗ cellX c ∗ cellS c ∗ ∃ r, prngReg c r)

/-- The same as the launch hands it over: the scratch buffers whole, the register, the semaphores, the operands whole. -/
abbrev ΦL (c : Dev nD) (X0 : Buf (Elt F) (xM.view.loc (c : Thread nD τ))) (S0 : Buf (Elt F) (sM.view.loc (c : Thread nD τ)))
    (XA : Buf (Elt F) (wM.view.loc (c : Thread nD τ))) : sProp 𝕄 :=
  iprop(((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f))
    ∗ (∃ r, prngReg c r) ∗ (cellX c ∗ cellS c ∗ cellP c 0 ∗ cellP c 1 ∗ cellP c 2 ∗ cellP c 3)
    ∗ (((c : Thread nD τ).loc main_v0) ↦{fullShare} X0) ∗ (((c : Thread nD τ).loc main_v1) ↦{fullShare} S0) ∗ (((c : Thread nD τ).loc main_arg1) ↦{fullShare} XA))

/-- The whole activations at home, as the memref owns them. -/
theorem x_eq (c : Dev nD) (X : Buf (Elt F) (xM.view.loc (c : Thread nD τ))) : (((c : Thread nD τ).loc main_v0) ↦{fullShare} X : sProp 𝕄) = xHome c X := by
  unfold xHome; rw [show (xM : Memref sig .tc .hbm _ _).view.set = Finset.univ from View.set_whole _]
/-- The whole scales at home, as the memref owns them. -/
theorem s_eq (c : Dev nD) (X : Buf (Elt F) (sM.view.loc (c : Thread nD τ))) : (((c : Thread nD τ).loc main_v1) ↦{fullShare} X : sProp 𝕄) = sHome c X := by
  unfold sHome; rw [show (sM : Memref sig .tc .hbm _ _).view.set = Finset.univ from View.set_whole _]
/-- The activations' whole buffer, as the memref owns it. -/
theorem xB_eq (c : Dev nD) (X : Buf (Elt F) (xB.view.loc (c : Thread nD τ))) : (((c : Thread nD τ).loc cc0_scratch0) ↦{fullShare} X : sProp 𝕄) = xP c X := by
  unfold xP; rw [show (xB : Memref sig .tc .vmem _ _).view.set = Finset.univ from View.set_whole _]
/-- The scales' whole buffer, as the memref owns it. -/
theorem sB_eq (c : Dev nD) (X : Buf (Elt F) (sB.view.loc (c : Thread nD τ))) : (((c : Thread nD τ).loc cc0_scratch1) ↦{fullShare} X : sProp 𝕄) = sP c X := by
  unfold sP; rw [show (sB : Memref sig .tc .vmem _ _).view.set = Finset.univ from View.set_whole _]

/-- What the launch hands over is what the body needs, -/
theorem toΦ (c : Dev nD) (X0 : Buf (Elt F) (xM.view.loc (c : Thread nD τ))) (S0 : Buf (Elt F) (sM.view.loc (c : Thread nD τ)))
    (XA : Buf (Elt F) (wM.view.loc (c : Thread nD τ))) : ΦL c X0 S0 XA ⊢ ΦG c X0 S0 XA := by
  unfold ΦG
  iintro ⟨⟨⟨%fx, HX⟩, ⟨%fs, HS⟩, HB⟩, Hr, ⟨HcX, HcS, Hc0, Hc1, Hc2, Hc3⟩, Hx0, Hs0, Hw⟩
  ihave Hs := (buf_split c) $$ HB
  icases Hs with ⟨⟨%f0, Hb0⟩, ⟨%f1, Hb1⟩, ⟨%f2, Hb2⟩, ⟨%f3, Hb3⟩⟩
  isplitl [Hx0]; · iapply (entails_of_eq (x_eq c X0)); iexact Hx0
  isplitl [Hs0]; · iapply (entails_of_eq (s_eq c S0)); iexact Hs0
  isplitl [HX]; · iexists fx; iapply (entails_of_eq (xB_eq c fx)); iexact HX
  isplitl [HS]; · iexists fs; iapply (entails_of_eq (sB_eq c fs)); iexact HS
  isplitl [Hw]; · iapply (entails_of_eq (w_eq c XA)); iexact Hw
  isplitl [Hc0 Hc1 Hc2 Hc3 Hb0 Hb1 Hb2 Hb3]
  · isplitl [Hc0 Hb0]
    · iexists f0; isplitl [Hc0]; · iexact Hc0
      iexact Hb0
    isplitl [Hc1 Hb1]
    · iexists f1; isplitl [Hc1]; · iexact Hc1
      iexact Hb1
    isplitl [Hc2 Hb2]
    · iexists f2; isplitl [Hc2]; · iexact Hc2
      iexact Hb2
    iexists f3; isplitl [Hc3]; · iexact Hc3
    iexact Hb3
  isplitl [HcX]; · iexact HcX
  isplitl [HcS]; · iexact HcS
  iexact Hr
/-- and back. -/
theorem fromΦ (c : Dev nD) (X0 : Buf (Elt F) (xM.view.loc (c : Thread nD τ))) (S0 : Buf (Elt F) (sM.view.loc (c : Thread nD τ)))
    (XA : Buf (Elt F) (wM.view.loc (c : Thread nD τ))) : ΦG c X0 S0 XA ⊢ ΦL c X0 S0 XA := by
  unfold ΦG
  iintro ⟨Hx0, Hs0, ⟨%fx, HX⟩, ⟨%fs, HS⟩, Hw, ⟨⟨%f0, Hc0, Hb0⟩, ⟨%f1, Hc1, Hb1⟩, ⟨%f2, Hc2, Hb2⟩, ⟨%f3, Hc3, Hb3⟩⟩, HcX, HcS, Hr⟩
  isplitl [HX HS Hb0 Hb1 Hb2 Hb3]
  · isplitl [HX]; · iexists fx; iapply (entails_of_eq (xB_eq c fx).symm); iexact HX
    isplitl [HS]; · iexists fs; iapply (entails_of_eq (sB_eq c fs).symm); iexact HS
    iapply (buf_join c)
    isplitl [Hb0]; · iexists f0; iexact Hb0
    isplitl [Hb1]; · iexists f1; iexact Hb1
    isplitl [Hb2]; · iexists f2; iexact Hb2
    iexists f3; iexact Hb3
  isplitl [Hr]; · iexact Hr
  isplitl [HcX HcS Hc0 Hc1 Hc2 Hc3]
  · isplitl [HcX]; · iexact HcX
    isplitl [HcS]; · iexact HcS
    isplitl [Hc0]; · iexact Hc0
    isplitl [Hc1]; · iexact Hc1
    isplitl [Hc2]; · iexact Hc2
    iexact Hc3
  isplitl [Hx0]; · iapply (entails_of_eq (x_eq c X0).symm); iexact Hx0
  isplitl [Hs0]; · iapply (entails_of_eq (s_eq c S0).symm); iexact Hs0
  iapply (entails_of_eq (w_eq c XA).symm); iexact Hw

variable (m : (ℓ : Loc nD τ sig) → Buf (Elt F) ℓ) (ρ : Dev nD → PrngReg)

/-- The body's own pieces at the arrays the region begins with. -/
abbrev ΦR (c : Dev nD) : sProp 𝕄 := ΦG c (V m c main_v0) (V m c main_v1) (V m c main_arg1)

/-- The array the kernel leaves. -/
def outM (c : Dev nD) : S24x14336.Idx → Elt F .bf16 :=
  outArr c (V m c main_arg1) (xIn c (V m c main_v0)) (sIn c (V m c main_v1))

/-- The result window's staging buffer. -/
abbrev st0 (t : Fin cfg0.N) : Memref sig .tc .vmem S24x14336 .bf16 := win0_0.stage (cfg0.slots t 0)
/-- The staging buffer is a whole buffer. -/
abbrev hst0 (t : Fin cfg0.N) : (st0 t).IsWhole := hstage0_0 0

/-- The proof's data: the result's window ends at `outM`. -/
def dats (_ : Fin 1) (c : Dev nD) : Dat τ (Elt F) Unit ℕ (UU nD τ) ℕ cfg0 c where
  A w := V m c (Pipeline.arrRef spec0 w)
  after w t := match w with | ⟨0, _⟩ => outM m c
  Φ _ := ΦR m c
  q _ := fullShare
  owed _ := 0

/-- After the step the result window holds what the body leaves. -/
theorem after_w0 (c : Dev nD) (t : Fin cfg0.N) : (dats m 0 c).after 0 t = outM m c := by dsimp only [dats]

/-- The body's definition. -/
theorem defs_tc : (defs₀ (F := F)) .tc cfg0.body = fun a => bodyG (win0_0.stage (a.2 0)) (hstage0_0 0) := rfl
/-- The body's program at a step. -/
theorem prog_eq (t : Fin cfg0.N) : (defs₀ (F := F)) .tc cfg0.body (cfg0.bodyArgs t (cfg0.slots t)) = bodyG (st0 t) (hst0 t) :=
  (congrFun defs_tc _).trans rfl

set_option backward.isDefEq.respectTransparency.types false in
/-- The body at its point: from what is held to the result's buffer at `outM`. -/
theorem body_obligation (c : Dev nD) : BodyObligation (dats (F := F) m 0 c) (defs₀ (F := F)) 𝒱₀ () Set.univ := fun t => by
  rw [bigSep_W0, bigSep_W0]
  dsimp only
  simp only [after_w0]
  rw [show (dats m 0 c).Φ t.castSucc = ΦR m c from rfl, show (dats m 0 c).Φ t.succ = ΦR m c from rfl]
  unfold Dat.owesAt Pipeline.owesWithin
  rw [show (dats m 0 c).owed t.castSucc = 0 from rfl, show (dats m 0 c).owed t.succ = 0 from rfl]
  unfold owns ΦR ΦG
  iintro ⟨⟨HX0, HS0, HX, HS, Hh, HF, HcX, HcS, Hr⟩, ⟨%W, -, HW⟩, ⟨%d1, %gO, -, HO⟩⟩
  ihave Hh4 := (entails_of_eq (homes_zero c (V m c main_arg1))) $$ Hh
  sl_rw [prog_eq t]
  iapply (bodyRun c (V m c main_arg1) (V m c main_v0) (V m c main_v1) (st0 t) (hst0 t) gO W)
  isplitl [HX0 HS0 HO HX HS Hh4 HF HcX HcS HW]
  · isplitl [HX0]; · iexact HX0
    isplitl [HS0]; · iexact HS0
    isplitl [HO]; · iexact HO
    isplitl [HX]; · iexact HX
    isplitl [HS]; · iexact HS
    isplitl [Hh4]; · iexact Hh4
    isplitl [HF]; · iexact HF
    isplitl [HcX]; · iexact HcX
    isplitl [HcS]; · iexact HcS
    iexact HW
  · iintro ⟨HX0, HS0, HO, HX, HS, Hh, HF, HcX, HcS, ⟨%W', HW⟩⟩
    isplitl [HX0 HS0 HX HS Hh HF HcX HcS Hr]
    · isplitl [HX0]; · iexact HX0
      isplitl [HS0]; · iexact HS0
      isplitl [HX]; · iexact HX
      isplitl [HS]; · iexact HS
      isplitl [Hh]; · iexact Hh
      isplitl [HF]; · iexact HF
      isplitl [HcX]; · iexact HcX
      isplitl [HcS]; · iexact HcS
      iexact Hr
    isplitl [HW]
    · iexists W'; isplitr; · ipureintro; exact fun _ _ => Or.inl trivial
      iexact HW
    iexists _; isplitr
    · ipureintro; exact read_out c (V m c main_arg1) (st0 t) (xIn c (V m c main_v0)) (sIn c (V m c main_v1)) gO
    iexact HO

/-- `main` around the region, at this proof's algebra. -/
theorem hmain : Pipeline.HMainK (Ix := Unit) (Name := ℕ) (U := UU nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The host line after the region touches none of the buffers the body transfers from. -/
theorem sfx_but : ∀ ops ∈ ([hostOps1] : List (List (HloOp τ sig (Elt F)))), ∀ op ∈ ops,
    op.bufs ⊆ Pipeline.tailRefsBut sig Pipeline.Prefetch.none spec0 HH := by
  intro ops hops op hop
  simp only [List.mem_cons, List.mem_nil_iff, or_false] at hops
  rcases hops with rfl
  have h1 := (List.forall_iff_forall_mem.mp hostOps1_sub) op hop
  refine Pipeline.sub_tailRefsBut _ _ _ op h1 (fun k => k.elim0) ?_
  simp only [hostOps1, List.mem_cons, List.mem_nil_iff, or_false] at hop
  rcases hop with rfl
  intro b hb
  simp only [HH, Finset.mem_insert, Finset.mem_singleton] at hb
  rw [StableHlo.reshape_bufs]
  simp only [Finset.mem_insert, Finset.mem_singleton, not_or]
  rcases hb with rfl | rfl | rfl <;> exact ⟨StableHlo.devRef_ne_of_ne (by decide), StableHlo.devRef_ne_of_ne (by decide)⟩

/-- The run: from any memory with every semaphore at zero, @main ends, its result window at `outM`, every semaphore at
    zero again. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around cfgs (dats m) 0 launch0 osem defs₀ 𝒱₀ ownSemFacts HH (by decide) m ρ main
    (fun c => (body_obligation m c).loose) (fun c => (dats m 0 c).share_full fun _ => rfl) (fun _ _ => rfl)
    (V0 m) [hostOps1] sfx_but sfx_fresh sfx_keeps (hmain m) (fun _ _ => rfl)
    (fun c => by
      rw [Pipeline.ΦD_eq, scopedRest0_eq, ownSems0_eq, bigSep_HH]
      exact toΦ c (V m c main_v0) (V m c main_v1) (V m c main_arg1))
    (fun c => by
      rw [Pipeline.ΦD_eq, scopedRest0_eq, ownSems0_eq, bigSep_HH]
      exact fromΦ c (V m c main_v0) (V m c main_v1) (V m c main_arg1))
    _ (fun _ h => h)

/-! ## The arguments end as they began -/

/-- No host operation after the region writes `main_arg0`: it ends as launched. -/
theorem end_main_arg0 (dats : (p : Fin _) → (c : Dev nD) → Dat τ (Elt F) Unit ℕ (UU nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem end_main_arg1 (dats : (p : Fin _) → (c : Dev nD) → Dat τ (Elt F) Unit ℕ (UU nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem end_main_arg2 (dats : (p : Fin _) → (c : Dev nD) → Dat τ (Elt F) Unit ℕ (UU nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- Every run ends with the three arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨(((h.1 c).2 main_arg0 (Pipeline.mem_restRefs_of main_arg0 (by decide) (by decide))).trans (end_main_arg0 m (dats m) c)),
      (((h.1 c).2 main_arg1 (Pipeline.mem_restRefs_of main_arg1 (by decide) (by decide))).trans (end_main_arg1 m (dats m) c)),
      (((h.1 c).2 main_arg2 (Pipeline.mem_restRefs_of main_arg2 (by decide) (by decide))).trans (end_main_arg2 m (dats m) c))⟩, h.2⟩) (run_main m ρ)

/-- The run's final memory alone. -/
theorem run_frame : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main m ρ)
end Cert.Kernel.Hand
-- ==== Proof.Body.lean ====
/-
  The kernel's body, run once at symbolic contents of its operands. The four weight slabs that are in flight across a
  trip boundary, the slabs at rest and the columns of the result already written are the loop's invariant; a trip waits
  for slab `k`, multiplies, stores 1024 columns of the result and issues slab `k + 4` into the slot it freed.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameSuffix
public import Idealize.ShloMosaic.Lib.Ring
public import Idealize.ShloMosaic.Lib.WritesUnit
public import Idealize.ShloMosaic.Lib.Tactic

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the counters of each transfer of the kernel's own. -/
abbrev UU (nD : Nat) (τ : Topo) : Type := Pipeline.UD sig nD τ
local notation "𝕄" => MT nD τ sig Unit (Elt F) ℕ (UU nD τ) ℕ
/-- The program has no variants. -/
abbrev 𝒱₀ : Variants := Variants.none

omit [FloatOps F] in
/-- Equal propositions entail one another. -/
theorem entails_of_eq {P Q : sProp 𝕄} (e : P = Q) : P ⊢ Q := e ▸ .rfl

/-! ## Names: slab `b` of the weights, slot `s` of the ring, slot `s`'s semaphore -/

/-- The activations at home. -/
abbrev xM : Memref sig .tc .hbm S24x4096 .bf16 := Memref.whole main_v0
/-- The scales at home. -/
abbrev sM : Memref sig .tc .hbm S1x14336 .f32 := Memref.whole main_v1
/-- The weights at home. -/
abbrev wM : Memref sig .tc .hbm S14336x4096 .i8 := Memref.whole main_arg1
/-- The activations' buffer. -/
abbrev xB : Memref sig .tc .vmem S24x4096 .bf16 := Memref.whole cc0_scratch0
/-- The scales' buffer. -/
abbrev sB : Memref sig .tc .vmem S1x14336 .f32 := Memref.whole cc0_scratch1
/-- The ring of four weight slabs. -/
abbrev bufM : Memref sig .tc .vmem S4x1024x4096 .i8 := Memref.whole cc0_scratch2

/-- Where weight slab `b` begins. -/
abbrev grpOff (b : Fin 14) : Fin 2 → Nat := ![b.val * 1024, 0]
/-- Slab `b` lies in the weights. -/
theorem grpOff_inb (b : Fin 14) : ∀ a, grpOff b a + S1024x4096.size a ≤ S14336x4096.size a := by
  have := b.isLt; intro a; fin_cases a
  · show b.val * 1024 + 1024 ≤ 14336; omega
  · show 0 + 4096 ≤ 4096; omega
/-- Where slot `s` begins. -/
abbrev slotOff (s : Fin 4) : Fin 3 → Nat := ![s.val, 0, 0]
/-- Slot `s` lies in the ring. -/
theorem slotOff_inb (s : Fin 4) : ∀ a, slotOff s a + S1x1024x4096.size a ≤ S4x1024x4096.size a := by
  have := s.isLt; intro a; fin_cases a
  · show s.val + 1 ≤ 4; omega
  · show 0 + 1024 ≤ 1024; omega
  · show 0 + 4096 ≤ 4096; omega
/-- Where slot `s`'s semaphore is. -/
abbrev semOff (s : Fin 4) : Fin 1 → Nat := ![s.val]
/-- Slot `s`'s semaphore lies in the semaphore array. -/
theorem semOff_inb (s : Fin 4) : ∀ a, semOff s a + S1.size a ≤ S4.size a := by
  have := s.isLt; intro a; fin_cases a; show s.val + 1 ≤ 4; omega

/-- Slab `b` of the weights: 1024 of its rows, as the body slices it. -/
def grp (b : Fin 14) : Memref sig .tc .hbm S1024x4096 .i8 :=
  wM.slice (Rect.unit (s := S14336x4096) (grpOff b) S1024x4096.size (grpOff_inb b)) (fun _ => rfl)
/-- Slot `s` of the ring, as the body slices and squeezes it. -/
def rslot (s : Fin 4) : Memref sig .tc .vmem S1024x4096 .i8 :=
  (bufM.slice (Rect.unit (s := S4x1024x4096) (slotOff s) S1x1024x4096.size (slotOff_inb s)) (fun _ => rfl)).squeeze S1024x4096 squeezes_S1x1024x4096_S1024x4096
/-- Slot `s`'s DMA semaphore. -/
def csm (s : Fin 4) : DmaSems sig S_ := (cc0_scratch5.slice (Rect.unit (s := S4) (semOff s) S1.size (semOff_inb s))).squeeze S_ squeezes_S1_S_

instance (s : Fin 4) : ClosedOff (slotOff s) := ⟨slotOff s, rfl⟩
instance (b : Fin 14) : ClosedOff (grpOff b) := ⟨grpOff b, rfl⟩

/-! ## The trip's offsets in closed form -/

/-- The loop makes one trip per slab. -/
theorem trips_eq : k0_t1_loop.trips = 14 := by decide
/-- A trip's number is below 14. -/
theorem trip_lt (k : Fin k0_t1_loop.trips) : k.val < 14 := Nat.lt_of_lt_of_eq k.isLt trips_eq
/-- The semaphore waited on in trip `k` is slot `k mod 4`'s. -/
theorem off1_eq : ∀ k : Fin k0_t1_loop.trips, k0_off1 k = semOff (Ring.sl 4 k.val) := by decide +kernel
/-- The slot waited for in trip `k` is slot `k mod 4`. -/
theorem off2_eq : ∀ k : Fin k0_t1_loop.trips, k0_off2 k = slotOff (Ring.sl 4 k.val) := by decide +kernel
/-- The slab waited for in trip `k` is slab `k`. -/
theorem off3_eq : ∀ k : Fin k0_t1_loop.trips, k0_off3 k = grpOff (Ring.bk 14 k.val) := by decide +kernel
/-- Column `k * 1024` of row 0. -/
abbrev colOff2 (k : Nat) : Fin 2 → Nat := ![0, k * 1024]
/-- Trip `k` reads the scales from column `k * 1024`. -/
theorem off4_eq : ∀ k : Fin k0_t1_loop.trips, k0_off4 k = colOff2 k.val := by decide +kernel
/-- Trip `k` reads slot `k mod 4`. -/
theorem off5_eq : ∀ k : Fin k0_t1_loop.trips, k0_off5 k = slotOff (Ring.sl 4 k.val) := by decide +kernel
/-- Trip `k` stores from column `k * 1024`. -/
theorem off6_eq : ∀ k : Fin k0_t1_loop.trips, k0_off6 k = colOff2 k.val := by decide +kernel
/-- Trip `k` issues on slot `k mod 4`'s semaphore. -/
theorem off7_eq : ∀ k : Fin k0_t1_loop.trips, k0_off7 k = semOff (Ring.sl 4 k.val) := by decide +kernel
/-- Trip `k` issues into slot `k mod 4`. -/
theorem off8_eq : ∀ k : Fin k0_t1_loop.trips, k0_off8 k = slotOff (Ring.sl 4 k.val) := by decide +kernel
/-- Trip `k` issues slab `k + 4`, while there is one. -/
theorem off9_eq : ∀ k : Fin k0_t1_loop.trips, k.val + 4 < 14 → k0_off9 k = grpOff (Ring.bk 14 (k.val + 4)) := by decide +kernel
/-- A trip issues a slab exactly when four trips later there is one. -/
theorem cond_iff : ∀ k : Fin k0_t1_loop.trips, k0_cond1 k = 1#1 ↔ k.val + 4 < 14 := by decide +kernel

instance (k : Fin k0_t1_loop.trips) : ClosedOff (k0_off2 k) := ⟨slotOff (Ring.sl 4 k.val), off2_eq k⟩
instance (k : Fin k0_t1_loop.trips) : ClosedOff (k0_off5 k) := ⟨slotOff (Ring.sl 4 k.val), off5_eq k⟩
instance (k : Fin k0_t1_loop.trips) : ClosedOff (k0_off8 k) := ⟨slotOff (Ring.sl 4 k.val), off8_eq k⟩

section Canon

private theorem csm_congr {off : Fin 1 → Nat} {s : Fin 4} (e : off = semOff s) (hh) :
    (cc0_scratch5.slice (Rect.unit (s := S4) off S1.size hh)).squeeze S_ squeezes_S1_S_ = csm s :=
  congrArg (fun A : DmaSems sig S1 => A.squeeze S_ squeezes_S1_S_) (SemArray.slice_unit_congr _ e _ _)
private theorem rslot_congr {off : Fin 3 → Nat} {s : Fin 4} (e : off = slotOff s) (hh hs) :
    (bufM.slice (Rect.unit (s := S4x1024x4096) off S1x1024x4096.size hh) hs).squeeze S1024x4096 squeezes_S1x1024x4096_S1024x4096 = rslot s :=
  congrArg (fun M : Memref sig .tc .vmem S1x1024x4096 .i8 => M.squeeze S1024x4096 squeezes_S1x1024x4096_S1024x4096) (Memref.slice_unit_congr _ e _ _ _ _)
private theorem grp_congr {off : Fin 2 → Nat} {b : Fin 14} (e : off = grpOff b) (hh hs) :
    wM.slice (Rect.unit (s := S14336x4096) off S1024x4096.size hh) hs = grp b := Memref.slice_unit_congr _ e _ _ _ (fun _ => rfl)

@[sl_canon] theorem semL0 (hh) : (cc0_scratch5.slice (Rect.unit (s := S4) ![0] S1.size hh)).squeeze S_ squeezes_S1_S_ = csm 0 := csm_congr (by decide) _
@[sl_canon] theorem semL1 (hh) : (cc0_scratch5.slice (Rect.unit (s := S4) ![1] S1.size hh)).squeeze S_ squeezes_S1_S_ = csm 1 := csm_congr (by decide) _
@[sl_canon] theorem semL2 (hh) : (cc0_scratch5.slice (Rect.unit (s := S4) ![2] S1.size hh)).squeeze S_ squeezes_S1_S_ = csm 2 := csm_congr (by decide) _
@[sl_canon] theorem semL3 (hh) : (cc0_scratch5.slice (Rect.unit (s := S4) ![3] S1.size hh)).squeeze S_ squeezes_S1_S_ = csm 3 := csm_congr (by decide) _
@[sl_canon] theorem slotL0 (hh hs) : (bufM.slice (Rect.unit (s := S4x1024x4096) ![0, 0, 0] S1x1024x4096.size hh) hs).squeeze S1024x4096 squeezes_S1x1024x4096_S1024x4096 = rslot 0 := rslot_congr (by decide) _ _
@[sl_canon] theorem slotL1 (hh hs) : (bufM.slice (Rect.unit (s := S4x1024x4096) ![1, 0, 0] S1x1024x4096.size hh) hs).squeeze S1024x4096 squeezes_S1x1024x4096_S1024x4096 = rslot 1 := rslot_congr (by decide) _ _
@[sl_canon] theorem slotL2 (hh hs) : (bufM.slice (Rect.unit (s := S4x1024x4096) ![2, 0, 0] S1x1024x4096.size hh) hs).squeeze S1024x4096 squeezes_S1x1024x4096_S1024x4096 = rslot 2 := rslot_congr (by decide) _ _
@[sl_canon] theorem slotL3 (hh hs) : (bufM.slice (Rect.unit (s := S4x1024x4096) ![3, 0, 0] S1x1024x4096.size hh) hs).squeeze S1024x4096 squeezes_S1x1024x4096_S1024x4096 = rslot 3 := rslot_congr (by decide) _ _
@[sl_canon] theorem grpL0 (hh hs) : wM.slice (Rect.unit (s := S14336x4096) ![0, 0] S1024x4096.size hh) hs = grp 0 := grp_congr (by decide) _ _
@[sl_canon] theorem grpL1 (hh hs) : wM.slice (Rect.unit (s := S14336x4096) ![1024, 0] S1024x4096.size hh) hs = grp 1 := grp_congr (by decide) _ _
@[sl_canon] theorem grpL2 (hh hs) : wM.slice (Rect.unit (s := S14336x4096) ![2048, 0] S1024x4096.size hh) hs = grp 2 := grp_congr (by decide) _ _
@[sl_canon] theorem grpL3 (hh hs) : wM.slice (Rect.unit (s := S14336x4096) ![3072, 0] S1024x4096.size hh) hs = grp 3 := grp_congr (by decide) _ _
@[sl_canon] theorem semK (k : Fin k0_t1_loop.trips) (hh) :
    (cc0_scratch5.slice (Rect.unit (s := S4) (k0_off1 k) S1.size hh)).squeeze S_ squeezes_S1_S_ = csm (Ring.sl 4 k.val) := csm_congr (off1_eq k) _
@[sl_canon] theorem semI (k : Fin k0_t1_loop.trips) (hh) :
    (cc0_scratch5.slice (Rect.unit (s := S4) (k0_off7 k) S1.size hh)).squeeze S_ squeezes_S1_S_ = csm (Ring.sl 4 k.val) := csm_congr (off7_eq k) _
@[sl_canon] theorem slotK (k : Fin k0_t1_loop.trips) (hh hs) :
    (bufM.slice (Rect.unit (s := S4x1024x4096) (k0_off2 k) S1x1024x4096.size hh) hs).squeeze S1024x4096 squeezes_S1x1024x4096_S1024x4096 = rslot (Ring.sl 4 k.val) := rslot_congr (off2_eq k) _ _
@[sl_canon] theorem slotI (k : Fin k0_t1_loop.trips) (hh hs) :
    (bufM.slice (Rect.unit (s := S4x1024x4096) (k0_off8 k) S1x1024x4096.size hh) hs).squeeze S1024x4096 squeezes_S1x1024x4096_S1024x4096 = rslot (Ring.sl 4 k.val) := rslot_congr (off8_eq k) _ _
@[sl_canon] theorem grpW (k : Fin k0_t1_loop.trips) (hh hs) :
    wM.slice (Rect.unit (s := S14336x4096) (k0_off3 k) S1024x4096.size hh) hs = grp (Ring.bk 14 k.val) := grp_congr (off3_eq k) _ _
@[sl_canon] theorem grpI (k : Fin k0_t1_loop.trips) (hk : k.val + 4 < 14) (hh hs) :
    wM.slice (Rect.unit (s := S14336x4096) (k0_off9 k) S1024x4096.size hh) hs = grp (Ring.bk 14 (k.val + 4)) := grp_congr (off9_eq k hk) _ _

end Canon

/-! ## The pieces: a slab at rest, a slot held, a slot's semaphore, a slab in flight -/

section Pieces
variable (c : Dev nD) (XA : Buf (Elt F) (wM.view.loc (c : Thread nD τ)))

/-- Slot `s`'s semaphore at zero. -/
abbrev cellP (s : Fin 4) : sProp 𝕄 := semVal ((c : Thread nD τ), SemLoc.dma (csm s).sem) 0
/-- Slot `s` of the ring, owned with contents `f`. -/
abbrev slotP (s : Fin 4) (f : Buf (Elt F) ((rslot s).view.loc (c : Thread nD τ))) : sProp 𝕄 :=
  (rslot s).view.loc (c : Thread nD τ) ↦[(rslot s).view.set]{fullShare} f
/-- Slab `b` at rest: held on its elements at the weights' contents. -/
abbrev homeP (b : Fin 14) : sProp 𝕄 := (grp b).view.loc (c : Thread nD τ) ↦[(grp b).view.set]{fullShare} XA
/-- What slab `b`'s transfer leaves in slot `s` over prior contents `f`. -/
abbrev landed (s : Fin 4) (b : Fin 14) (f : Buf (Elt F) ((rslot s).view.loc (c : Thread nD τ))) : Buf (Elt F) ((rslot s).view.loc (c : Thread nD τ)) :=
  (rslot s).view.writes (Elt F) f [⟨Rect.whole S1024x4096, ReadAs.same.apply ((grp b).view.read (Elt F) XA)⟩]
/-- A slab's transfer moves this many units on its semaphore. -/
abbrev NN (s : Fin 4) : ℕ := 131072
/-- Slot `s` in flight with slab `b`, issued over `f`. -/
abbrev flightP (s : Fin 4) (b : Fin 14) (f : Buf (Elt F) ((rslot s).view.loc (c : Thread nD τ))) : sProp 𝕄 :=
  Transfers.Flight countersEmb (c : Thread nD τ) (SemLoc.dma (csm s).sem) () (NN s) iprop(slotP c s (landed c XA s b f) ∗ homeP c XA b)
/-- Slot `s` free: its semaphore at zero, its elements at anything. -/
abbrev freeP (s : Fin 4) : sProp 𝕄 := iprop(∃ f, cellP c s ∗ slotP c s f)
/-- The slot that slab `n` uses: in flight with it, or free when there is no slab `n`. -/
def stageP (n : ℕ) : sProp 𝕄 := if n < 14 then iprop(∃ f, flightP c XA (Ring.sl 4 n) (Ring.bk 14 n) f) else freeP c (Ring.sl 4 n)

/-- A stage below 14 is a slab in flight. -/
theorem stage_in (n : ℕ) (h : n < 14) : stageP c XA n = iprop(∃ f, flightP c XA (Ring.sl 4 n) (Ring.bk 14 n) f) := if_pos h
/-- A stage past the last slab is a free slot. -/
theorem stage_out (n : ℕ) (h : ¬ n < 14) : stageP c XA n = freeP c (Ring.sl 4 n) := if_neg h

/-- Before trip `k` the slab about to go out apart from the other slabs at rest; -/
theorem homes_here (k : ℕ) (hk : k + 4 < 14) :
    bigSep (Ring.homeSet 4 k) (homeP c XA) = iprop(homeP c XA (Ring.bk 14 (k + 4)) ∗ bigSep ((Ring.homeSet 4 k).erase (Ring.bk 14 (k + 4))) (homeP c XA)) := by
  conv_lhs => rw [Ring.homeSet_out 4 k hk, bigSep_insert (Ring.bkL_not_mem_erase 4 k)]
  rfl
/-- after it, the slab just back beside those. -/
theorem homes_next (k : ℕ) (hk : k + 4 < 14) :
    bigSep (Ring.homeSet 4 (k + 1)) (homeP c XA) = iprop(homeP c XA (Ring.bk 14 k) ∗ bigSep ((Ring.homeSet 4 k).erase (Ring.bk 14 (k + 4))) (homeP c XA)) := by
  conv_lhs => rw [Ring.homeSet_succ 4 k hk, bigSep_insert (Ring.bk_not_mem_erase 4 k (by omega) (by decide))]
  rfl
/-- Near the end, where nothing goes out, the slab just back beside all the others. -/
theorem homes_tail (k : ℕ) (h : 14 ≤ k + 4) (hk : k < 14) :
    bigSep (Ring.homeSet 4 (k + 1)) (homeP c XA) = iprop(homeP c XA (Ring.bk 14 k) ∗ bigSep (Ring.homeSet 4 k) (homeP c XA)) := by
  conv_lhs => rw [Ring.homeSet_succ_tail 4 k h hk, bigSep_insert (Ring.bk_not_mem_homeSet 4 k hk (by decide))]
  rfl

/-- Slab `b`'s words as a slot's payload. -/
abbrev payload (b : Fin 14) : S1024x4096.Idx → Elt F .i8 := ReadAs.same.apply ((grp b).view.read (Elt F) XA)
/-- Slot `s` with slab `b` landed in it. -/
abbrev landedJ (s : Fin 4) (b : Fin 14) : Buf (Elt F) ((rslot s).view.loc (c : Thread nD τ)) :=
  (rslot s).view.writes (Elt F) (rslot s).view.junk [⟨Rect.whole S1024x4096, payload c XA b⟩]
/-- The transfer a trip issues goes into the slot as the slab before it left it. -/
theorem flightP_after (s : Fin 4) (b b' : Fin 14) :
    flightP c XA s b' (landedJ c XA s b)
      = Transfers.Flight countersEmb (c : Thread nD τ) (SemLoc.dma (csm s).sem) () 131072
          iprop(((rslot s).view.loc (c : Thread nD τ) ↦[(rslot s).view.set]{fullShare}
                  (rslot s).view.writes (Elt F) (rslot s).view.junk [⟨Rect.whole S1024x4096, payload c XA b'⟩, ⟨Rect.whole S1024x4096, payload c XA b⟩])
                ∗ homeP c XA b') := by
  simp only [flightP, landed, landedJ, slotP, NN, View.writes]

end Pieces

section Trip

variable (c : Dev nD) (XA : Buf (Elt F) (wM.view.loc (c : Thread nD τ)))
  (arg3 : Memref sig .tc .vmem S24x14336 .bf16) (harg3 : arg3.IsWhole)
  (fx : Buf (Elt F) (xB.view.loc (c : Thread nD τ))) (fs : Buf (Elt F) (sB.view.loc (c : Thread nD τ)))

/-- The result's staging buffer. -/
abbrev oP (fo : Buf (Elt F) (arg3.view.loc (c : Thread nD τ))) : sProp 𝕄 := arg3.view.loc (c : Thread nD τ) ↦[arg3.view.set]{fullShare} fo
/-- The activations' buffer, owned. -/
abbrev xP : sProp 𝕄 := xB.view.loc (c : Thread nD τ) ↦[xB.view.set]{fullShare} fx
/-- The scales' buffer, owned. -/
abbrev sP : sProp 𝕄 := sB.view.loc (c : Thread nD τ) ↦[sB.view.set]{fullShare} fs

/-- What is held before trip `k`, the result's buffer at `fo`. -/
def resAt (k : ℕ) (fo : Buf (Elt F) (arg3.view.loc (c : Thread nD τ))) : sProp 𝕄 :=
  iprop(oP c arg3 fo ∗ xP c fx ∗ sP c fs ∗ (∃ W, owes (c : Thread nD τ) 0 W)
    ∗ bigSep (Ring.homeSet 4 k) (homeP c XA)
    ∗ stageP c XA k ∗ stageP c XA (k + 1) ∗ stageP c XA (k + 2) ∗ stageP c XA (k + 3))

/-- The program of one trip. -/
abbrev tripG (k : Fin k0_t1_loop.trips) : Prog (TpuEff nD τ sig (Elt F) Λ₀ .tc) Unit :=
  k0_t1_body (F := F) xM (Memref.isWhole_whole _) sM (Memref.isWhole_whole _) wM (Memref.isWhole_whole _) arg3 harg3 xB (Memref.isWhole_whole _) sB (Memref.isWhole_whole _) bufM (Memref.isWhole_whole _) cc0_scratch3 cc0_scratch4 cc0_scratch5 k ()

/-- The columns trip `k` stores. -/
abbrev outRect (k : Fin k0_t1_loop.trips) : Rect S24x14336 := Rect.unit (s := S24x14336) (k0_off6 k) S24x1024.size (k0_off6_inb k)

/-- Trip `k`'s scale row: its 1024 columns of the scales. -/
abbrev sRow (k : Fin k0_t1_loop.trips) : FVec F S1x1024 .f32 := sB.view.readAt (Elt F) (Rect.unit (s := S1x14336) (k0_off4 k) S1x1024.size (k0_off4_inb k)).toLoadRect fs
/-- Trip `k`'s weight slab, as the body loads it from its slot. -/
abbrev wRows (k : Fin k0_t1_loop.trips) : IVec S1x1024x4096 8 :=
  bufM.view.readAt (Elt F) (Rect.unit (s := S4x1024x4096) (k0_off5 k) S1x1024x4096.size (k0_off5_inb k)).toLoadRect (landedJ c XA (Ring.sl 4 k.val) (Ring.bk 14 k.val))
/-- The activations, as the body loads them. -/
abbrev xAll : FVec F S24x4096 .bf16 := xB.view.readAt (Elt F) (Rect.unit (s := S24x4096) ![0, 0] S24x4096.size inb_S24x4096_S24x4096_0_0).toLoadRect fx
/-- What trip `k` stores: the product, rounded. -/
def outV (k : Fin k0_t1_loop.trips) : (outRect k).shape.Idx → Elt F .bf16 := k0_pay1 (sRow c fs k) (wRows c XA k) (xAll c fx)

/-- A trip while there is a slab left to issue. -/
theorem trip_more (k : Fin k0_t1_loop.trips) (hk4 : k.val + 4 < 14) (fo : Buf (Elt F) (arg3.view.loc (c : Thread nD τ))) :
    resAt c XA arg3 fx fs k fo ⊢ wp frame (wpE (defs₀ (F := F)) 𝒱₀ (c : Thread nD τ) none) Set.univ (tripG arg3 harg3 k)
        (fun _ => resAt c XA arg3 fx fs (k.val + 1) (arg3.view.writes (Elt F) fo [⟨outRect k, outV c XA fx fs k⟩])) := by
  have hk := trip_lt k
  have hc : k0_cond1 k = 1#1 := (cond_iff k).2 hk4
  unfold resAt
  rw [homes_here c XA k.val hk4, homes_next c XA k.val hk4, stage_in c XA k.val hk]
  iintro ⟨HO, HX, HS, ⟨%W, HW⟩, ⟨Hg, Hrest⟩, ⟨%f0, HF0⟩, H1, H2, H3⟩
  dsimp only [tripG]
  sl_unfold [k0_t1_body]
  sl_exec
  sl_step
  rw [show k.val + 1 + 1 = k.val + 2 from rfl, show k.val + 1 + 2 = k.val + 3 from rfl, show k.val + 1 + 3 = k.val + 4 from rfl, stage_in c XA (k.val + 4) hk4, Ring.sl_add 4 k.val]
  isplitl [HO]; · iexact HO
  isplitl [HX]; · iexact HX
  isplitl [HS]; · iexact HS
  isplitl [HW]; · iexists _; iexact HW
  isplitl [HF0_src Hrest]
  · isplitl [HF0_src]; · iexact HF0_src
    iexact Hrest
  isplitl [H1]; · iexact H1
  isplitl [H2]; · iexact H2
  isplitl [H3]; · iexact H3
  iexists (landedJ c XA (Ring.sl 4 k.val) (Ring.bk 14 k.val))
  irw [flightP_after]
  iexact HF0

/-- A trip near the end: nothing goes out, and the slot it emptied stays free. -/
theorem trip_last (k : Fin k0_t1_loop.trips) (hk4 : ¬ k.val + 4 < 14) (fo : Buf (Elt F) (arg3.view.loc (c : Thread nD τ))) :
    resAt c XA arg3 fx fs k fo ⊢ wp frame (wpE (defs₀ (F := F)) 𝒱₀ (c : Thread nD τ) none) Set.univ (tripG arg3 harg3 k)
        (fun _ => resAt c XA arg3 fx fs (k.val + 1) (arg3.view.writes (Elt F) fo [⟨outRect k, outV c XA fx fs k⟩])) := by
  have hk := trip_lt k
  have hc : ¬ k0_cond1 k = 1#1 := fun h => hk4 ((cond_iff k).1 h)
  unfold resAt
  rw [homes_tail c XA k.val (by omega) hk, stage_in c XA k.val hk]
  iintro ⟨HO, HX, HS, ⟨%W, HW⟩, Hrest, ⟨%f0, HF0⟩, H1, H2, H3⟩
  dsimp only [tripG]
  sl_unfold [k0_t1_body]
  sl_exec
  sl_step
  rw [show k.val + 1 + 1 = k.val + 2 from rfl, show k.val + 1 + 2 = k.val + 3 from rfl, show k.val + 1 + 3 = k.val + 4 from rfl, stage_out c XA (k.val + 4) hk4, Ring.sl_add 4 k.val]
  isplitl [HO]; · iexact HO
  isplitl [HX]; · iexact HX
  isplitl [HS]; · iexact HS
  isplitl [HW]; · iexists _; iexact HW
  isplitl [HF0_src Hrest]
  · isplitl [HF0_src]; · iexact HF0_src
    iexact Hrest
  isplitl [H1]; · iexact H1
  isplitl [H2]; · iexact H2
  isplitl [H3]; · iexact H3
  iexists _
  isplitl [HF0]; · iexact HF0
  iexact HF0_dst

/-- The result's buffer before trip `k`: from `o0` at the loop's entry, each trip's 1024 columns written on. -/
def oAcc (o0 : Buf (Elt F) (arg3.view.loc (c : Thread nD τ))) : ℕ → Buf (Elt F) (arg3.view.loc (c : Thread nD τ))
  | 0 => o0
  | k + 1 => if h : k < k0_t1_loop.trips then arg3.view.writes (Elt F) (oAcc o0 k) [⟨outRect ⟨k, h⟩, outV c XA fx fs ⟨k, h⟩⟩] else oAcc o0 k

/-- One more trip is one more write. -/
theorem oAcc_succ (o0 : Buf (Elt F) (arg3.view.loc (c : Thread nD τ))) (k : Fin k0_t1_loop.trips) :
    oAcc c XA arg3 fx fs o0 (k.val + 1) = arg3.view.writes (Elt F) (oAcc c XA arg3 fx fs o0 k) [⟨outRect k, outV c XA fx fs k⟩] := by
  rw [oAcc, dif_pos k.isLt]

set_option warn.classDefReducibility false in
/-- The loop's invariant: what is held before trip `k`, the result written up to it. -/
@[sl_loop] def loopInv1 (o0 : Buf (Elt F) (arg3.view.loc (c : Thread nD τ))) :
    LoopInvTy_k0_t1 (F := F) Unit ℕ (UU nD τ) ℕ 𝒱₀ c none Set.univ xM (Memref.isWhole_whole _) sM (Memref.isWhole_whole _) wM (Memref.isWhole_whole _) arg3 harg3 xB (Memref.isWhole_whole _) sB (Memref.isWhole_whole _) bufM (Memref.isWhole_whole _) cc0_scratch3 cc0_scratch4 cc0_scratch5 where
  inv k _ := resAt c XA arg3 fx fs k (oAcc c XA arg3 fx fs o0 k)
  step k _ := by
    rw [oAcc_succ]
    by_cases h4 : k.val + 4 < 14
    · exact trip_more c XA arg3 harg3 fx fs k h4 _
    · exact trip_last c XA arg3 harg3 fx fs k h4 _

end Trip

/-! ## The kernel body -/

section Run

variable (c : Dev nD) (XA : Buf (Elt F) (wM.view.loc (c : Thread nD τ)))
  (X0 : Buf (Elt F) (xM.view.loc (c : Thread nD τ))) (S0 : Buf (Elt F) (sM.view.loc (c : Thread nD τ)))
  (arg3 : Memref sig .tc .vmem S24x14336 .bf16) (harg3 : arg3.IsWhole)

/-- The body on the result's staging buffer, everything else its own. -/
abbrev bodyG : Prog (TpuEff nD τ sig (Elt F) Λ₀ .tc) PUnit :=
  cc0__linear_kernel xM (Memref.isWhole_whole _) sM (Memref.isWhole_whole _) wM (Memref.isWhole_whole _) arg3 harg3 xB (Memref.isWhole_whole _) sB (Memref.isWhole_whole _) bufM (Memref.isWhole_whole _) cc0_scratch3 cc0_scratch4 cc0_scratch5

/-- The activations at home, owned. -/
abbrev xHome : sProp 𝕄 := xM.view.loc (c : Thread nD τ) ↦[xM.view.set]{fullShare} X0
/-- The scales at home, owned. -/
abbrev sHome : sProp 𝕄 := sM.view.loc (c : Thread nD τ) ↦[sM.view.set]{fullShare} S0
/-- The activations' semaphore at zero. -/
abbrev cellX : sProp 𝕄 := semVal ((c : Thread nD τ), SemLoc.dma cc0_scratch3.sem) 0
/-- The scales' semaphore at zero. -/
abbrev cellS : sProp 𝕄 := semVal ((c : Thread nD τ), SemLoc.dma cc0_scratch4.sem) 0

/-- The activations, copied into their scratch buffer. -/
abbrev xIn : Buf (Elt F) (xB.view.loc (c : Thread nD τ)) := xB.view.writes (Elt F) xB.view.junk [⟨Rect.whole S24x4096, ReadAs.same.apply (xM.view.read (Elt F) X0)⟩]
/-- The scales, copied into theirs. -/
abbrev sIn : Buf (Elt F) (sB.view.loc (c : Thread nD τ)) := sB.view.writes (Elt F) sB.view.junk [⟨Rect.whole S1x14336, ReadAs.same.apply (sM.view.read (Elt F) S0)⟩]

/-- What the body is handed. -/
abbrev PRE (gO : Buf (Elt F) (arg3.view.loc (c : Thread nD τ))) (W : Waits sig Unit) : sProp 𝕄 :=
  iprop(xHome c X0 ∗ sHome c S0 ∗ oP c arg3 gO ∗ (∃ f, xP c f) ∗ (∃ f, sP c f)
    ∗ (homeP c XA 0 ∗ homeP c XA 1 ∗ homeP c XA 2 ∗ homeP c XA 3 ∗ bigSep (Ring.homeSet 4 0) (homeP c XA))
    ∗ (freeP c 0 ∗ freeP c 1 ∗ freeP c 2 ∗ freeP c 3) ∗ cellX c ∗ cellS c ∗ owes (c : Thread nD τ) 0 W)
/-- What it hands back, the result's buffer at `out`. -/
abbrev POST (out : Buf (Elt F) (arg3.view.loc (c : Thread nD τ))) : sProp 𝕄 :=
  iprop(xHome c X0 ∗ sHome c S0 ∗ oP c arg3 out ∗ (∃ f, xP c f) ∗ (∃ f, sP c f)
    ∗ bigSep Finset.univ (homeP c XA)
    ∗ (freeP c 0 ∗ freeP c 1 ∗ freeP c 2 ∗ freeP c 3) ∗ cellX c ∗ cellS c ∗ ∃ W, owes (c : Thread nD τ) 0 W)

/-- After the last trip every slab is back. -/
theorem homes_all : bigSep (Ring.homeSet 4 14) (homeP c XA) = bigSep Finset.univ (homeP c XA) := by
  congr 1

/-- At the loop's entry the four slots are in flight with slabs 0 to 3. -/
theorem stage0 : stageP c XA 0 = iprop(∃ f, flightP c XA 0 0 f) := stage_in c XA 0 (by decide)
/-- Slab 1 is in flight to slot 1 at the start. -/
theorem stage1 : stageP c XA (0 + 1) = iprop(∃ f, flightP c XA 1 1 f) := stage_in c XA 1 (by decide)
/-- Slab 2 is in flight to slot 2 at the start. -/
theorem stage2 : stageP c XA (0 + 2) = iprop(∃ f, flightP c XA 2 2 f) := stage_in c XA 2 (by decide)
/-- Slab 3 is in flight to slot 3 at the start. -/
theorem stage3 : stageP c XA (0 + 3) = iprop(∃ f, flightP c XA 3 3 f) := stage_in c XA 3 (by decide)
/-- A slot's semaphore and elements, under another name of the slot. -/
theorem free_of {s s' : Fin 4} (h : s = s') (f : Buf (Elt F) ((rslot s).view.loc (c : Thread nD τ))) : iprop(cellP c s ∗ slotP c s f) ⊢ freeP c s' := by
  subst h; iintro H; iexists f; iexact H

attribute [local sl_canon] stage0 stage1 stage2 stage3 in
/-- The body: the two copies in, the first four slabs issued, the loop by its invariant. -/
theorem bodyRun (gO W) (Q : PUnit → sProp 𝕄) :
    iprop(PRE c XA X0 S0 arg3 gO W ∗ (POST c XA X0 S0 arg3 (oAcc c XA arg3 (xIn c X0) (sIn c S0) gO 14) -∗ Q ⟨⟩))
      ⊢ wp frame (wpE (defs₀ (F := F)) 𝒱₀ (c : Thread nD τ) none) Set.univ (bodyG arg3 harg3) Q := by
  iintro ⟨⟨HX0, HS0, HO, ⟨%fx, HX⟩, ⟨%fs, HS⟩, ⟨Hg0, Hg1, Hg2, Hg3, Hh⟩, ⟨⟨%f0, Hc0, Hs0⟩, ⟨%f1, Hc1, Hs1⟩, ⟨%f2, Hc2, Hs2⟩, ⟨%f3, Hc3, Hs3⟩⟩, HcX, HcS, HW⟩, Hk⟩
  sl_exec
  sl_step
  iapply Hk
  isplitl [HX0]; · iexact HX0
  isplitl [HS0]; · iexact HS0
  isplitl [HO]; · iexact HO
  isplitl [HX]; · iexists _; iexact HX
  isplitl [HS]; · iexists _; iexact HS
  isplitl [Hh]
  · iapply (entails_of_eq (homes_all c XA)); iexact Hh
  isplitl [Hc0 Hc1 Hc2 Hc3]
  · isplitl [Hc2]; · iapply (free_of c (s := Ring.sl 4 (k0_t1_loop.trips + 2)) (s' := 0) (by decide) _); iexact Hc2
    isplitl [Hc3]; · iapply (free_of c (s := Ring.sl 4 (k0_t1_loop.trips + 3)) (s' := 1) (by decide) _); iexact Hc3
    isplitl [Hc0]; · iapply (free_of c (s := Ring.sl 4 (k0_t1_loop.trips)) (s' := 2) (by decide) _); iexact Hc0
    iapply (free_of c (s := Ring.sl 4 (k0_t1_loop.trips + 1)) (s' := 3) (by decide) _); iexact Hc1
  isplitl [HcX]; · iexact HcX
  isplitl [HcS]; · iexact HcS
  iexists _; iexact HW

/-- Column `q` of the result is column `q % 1024` of what trip `q / 1024` stores. -/
def outArr (fx : Buf (Elt F) (xB.view.loc (c : Thread nD τ))) (fs : Buf (Elt F) (sB.view.loc (c : Thread nD τ))) (y : S24x14336.Idx) : Elt F .bf16 :=
  outV c XA fx fs ⟨(y 1).val / 1024, by rw [trips_eq]; have : (y 1).val < 14336 := (y 1).isLt; omega⟩
    ((fun a => match a with | 0 => ⟨(y 0).val, (y 0).isLt⟩ | 1 => ⟨(y 1).val % 1024, Nat.mod_lt _ (by decide)⟩ : S24x1024.Idx))

/-- Before trip `k` the columns of the trips before it are written. -/
theorem read_oAcc (fx : Buf (Elt F) (xB.view.loc (c : Thread nD τ))) (fs : Buf (Elt F) (sB.view.loc (c : Thread nD τ)))
    (o0 : Buf (Elt F) (arg3.view.loc (c : Thread nD τ))) : ∀ k : ℕ, k ≤ 14 → ∀ y : S24x14336.Idx, (y 1).val < k * 1024 →
      arg3.view.read (Elt F) (oAcc c XA arg3 fx fs o0 k) y = outArr c XA fx fs y
  | 0, _, y, h => absurd h (by omega)
  | k + 1, hk, y, h => by
    have hT : k < k0_t1_loop.trips := by rw [trips_eq]; omega
    rw [show oAcc c XA arg3 fx fs o0 (k + 1) = _ from oAcc_succ c XA arg3 fx fs o0 ⟨k, hT⟩]
    by_cases hb : (y 1).val < k * 1024
    · rw [View.read_writes_cons_unit_of_not_mem arg3.view _ _ _ _ y (off6_eq ⟨k, hT⟩) (1 : Fin 2) (Or.inl hb)]
      exact read_oAcc fx fs o0 k (by omega) y hb
    · have hq : (y 1).val / 1024 = k := by omega
      have hx : (⟨(y 1).val / 1024, by rw [trips_eq]; have : (y 1).val < 14336 := (y 1).isLt; omega⟩ : Fin k0_t1_loop.trips) = ⟨k, hT⟩ := Fin.ext hq
      unfold outArr; rw [hx]
      refine View.read_writes_cons_unit_of_mem arg3.view _ _ _ _ y _ (off6_eq ⟨k, hT⟩) fun a => ?_
      match a with
      | 0 => show (y 0).val = 0 + (y 0).val; omega
      | 1 => show (y 1).val = k * 1024 + (y 1).val % 1024; omega

/-- The result's buffer after the loop, whatever it held. -/
theorem read_out (fx : Buf (Elt F) (xB.view.loc (c : Thread nD τ))) (fs : Buf (Elt F) (sB.view.loc (c : Thread nD τ)))
    (o0 : Buf (Elt F) (arg3.view.loc (c : Thread nD τ))) : arg3.view.read (Elt F) (oAcc c XA arg3 fx fs o0 14) = outArr c XA fx fs :=
  funext fun y => read_oAcc c XA arg3 fx fs o0 14 le_rfl y (y 1).isLt

end Run

/-! ## The weights whole are their fourteen slabs, the ring whole its four slots -/

/-- The entries of weight slab `b`. -/
abbrev G14 (b : Fin 14) : Finset S14336x4096.Idx := (Rect.unit (s := S14336x4096) (grpOff b) S1024x4096.size (grpOff_inb b)).set
/-- The entries of slot `s`. -/
abbrev S4s (s : Fin 4) : Finset S4x1024x4096.Idx := (Rect.unit (s := S4x1024x4096) (slotOff s) S1x1024x4096.size (slotOff_inb s)).set

/-- Slab `b`'s memref covers the entries of slab `b`. -/
theorem grp_set (b : Fin 14) : (grp b : Memref sig .tc .hbm _ _).view.set = G14 b := View.set_slice_whole _ _
/-- Slot `s`'s memref covers the entries of slot `s`. -/
theorem rslot_set (s : Fin 4) : (rslot s : Memref sig .tc .vmem _ _).view.set = S4s s := (View.set_reshape _ _).trans (View.set_slice_whole _ _)

/-- An entry is of slab `b` when its row is. -/
theorem mem_G14 (b : Fin 14) (y : S14336x4096.Idx) : y ∈ G14 b ↔ (y 0).val / 1024 = b.val := by
  rw [Rect.mem_set_unit]
  have h1 : (y 1).val < 4096 := (y 1).isLt
  constructor
  · intro H; have a0 : b.val * 1024 ≤ (y 0).val ∧ (y 0).val < b.val * 1024 + 1024 := H 0; omega
  · intro H i; fin_cases i
    · show b.val * 1024 ≤ (y 0).val ∧ (y 0).val < b.val * 1024 + 1024; omega
    · show 0 ≤ (y 1).val ∧ (y 1).val < 0 + 4096; omega
/-- An entry is of slot `s` when its leading index is. -/
theorem mem_S4s (s : Fin 4) (y : S4x1024x4096.Idx) : y ∈ S4s s ↔ (y 0).val = s.val := by
  rw [Rect.mem_set_unit]
  have h1 : (y 1).val < 1024 := (y 1).isLt
  have h2 : (y 2).val < 4096 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 4096; omega
theorem G14_disjoint : ∀ b b' : Fin 14, b ≠ b' → Disjoint (G14 b) (G14 b') := by
  intro b b' hne; rw [Finset.disjoint_left]; intro y hy hy'; rw [mem_G14] at hy hy'; exact hne (Fin.ext (hy.symm.trans hy'))
theorem G14_cover : (Finset.univ : Finset (Fin 14)).biUnion G14 = Finset.univ := by
  ext y; simp only [Finset.mem_biUnion, Finset.mem_univ, true_and, iff_true]
  exact ⟨⟨(y 0).val / 1024, by have : (y 0).val < 14336 := (y 0).isLt; omega⟩, by rw [mem_G14]⟩
theorem S4s_disjoint : ∀ s s' : Fin 4, s ≠ s' → Disjoint (S4s s) (S4s s') := by
  intro s s' hne; rw [Finset.disjoint_left]; intro y hy hy'; rw [mem_S4s] at hy hy'; exact hne (Fin.ext (hy.symm.trans hy'))
theorem S4s_cover : (Finset.univ : Finset (Fin 4)).biUnion S4s = Finset.univ := by
  ext y; simp only [Finset.mem_biUnion, Finset.mem_univ, true_and, iff_true]; exact ⟨(y 0).cast (by decide), by rw [mem_S4s]; rfl⟩

omit [FloatOps F] in
/-- Four pieces written out. -/
theorem bigSep_fin4 (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

/-- The weights whole are their slabs at rest; -/
theorem w_eq (c : Dev nD) (X : Buf (Elt F) (wM.view.loc (c : Thread nD τ))) :
    (((c : Thread nD τ).loc main_arg1) ↦{fullShare} X : sProp 𝕄) = bigSep Finset.univ (homeP c X) := by
  rw [Ring.pointsTo_blocks (ℓ := (c : Thread nD τ).loc main_arg1) G14 G14_disjoint G14_cover]
  exact bigSep_congr fun b _ => by rw [← grp_set]; rfl
/-- at the body's entry the first four apart from the rest. -/
theorem homes_zero (c : Dev nD) (X : Buf (Elt F) (wM.view.loc (c : Thread nD τ))) :
    bigSep Finset.univ (homeP c X) = iprop(homeP c X 0 ∗ homeP c X 1 ∗ homeP c X 2 ∗ homeP c X 3 ∗ bigSep (Ring.homeSet 4 0) (homeP c X)) := by
  have e : (Finset.univ : Finset (Fin 14)) = insert 0 (insert 1 (insert 2 (insert 3 (Ring.homeSet (NB := 14) 4 0)))) := by decide
  rw [e, bigSep_insert (by decide), bigSep_insert (by decide), bigSep_insert (by decide), bigSep_insert (by decide)]; rfl

/-- A slot owned is its entries of the ring owned. -/
theorem slotP_eq (c : Dev nD) (s : Fin 4) (f) : slotP c s f = (((c : Thread nD τ).loc cc0_scratch2) ↦[S4s s]{fullShare} f : sProp 𝕄) :=
  congrArg (fun S => (_ ↦[S]{fullShare} f : sProp 𝕄)) (rslot_set s)
/-- The ring whole is its four slots, -/
theorem buf_split (c : Dev nD) :
    iprop(∃ f : Buf (Elt F) ((c : Thread nD τ).loc cc0_scratch2), ((c : Thread nD τ).loc cc0_scratch2) ↦{fullShare} f)
      ⊢ (iprop((∃ f, slotP c 0 f) ∗ (∃ f, slotP c 1 f) ∗ (∃ f, slotP c 2 f) ∗ ∃ f, slotP c 3 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch2) S4s S4s_disjoint S4s_cover f).trans (bigSep_fin4 _))) $$ H
  icases H2 with ⟨H0, H1, H2, H3⟩
  isplitl [H0]; · iexists f; iapply (entails_of_eq (slotP_eq c 0 f).symm); iexact H0
  isplitl [H1]; · iexists f; iapply (entails_of_eq (slotP_eq c 1 f).symm); iexact H1
  isplitl [H2]; · iexists f; iapply (entails_of_eq (slotP_eq c 2 f).symm); iexact H2
  iexists f; iapply (entails_of_eq (slotP_eq c 3 f).symm); iexact H3
/-- and back. -/
theorem buf_join (c : Dev nD) :
    iprop((∃ f, slotP c 0 f) ∗ (∃ f, slotP c 1 f) ∗ (∃ f, slotP c 2 f) ∗ ∃ f, slotP c 3 f)
      ⊢ (iprop(∃ f : Buf (Elt F) ((c : Thread nD τ).loc cc0_scratch2), ((c : Thread nD τ).loc cc0_scratch2) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch2) S4s S4s_disjoint S4s_cover f0)
  irw [bigSep_fin4]
  isplitl [H0]; · iexists f0; iapply (entails_of_eq (slotP_eq c 0 f0)); iexact H0
  isplitl [H1]; · iexists f1; iapply (entails_of_eq (slotP_eq c 1 f1)); iexact H1
  isplitl [H2]; · iexists f2; iapply (entails_of_eq (slotP_eq c 2 f2)); iexact H2
  iexists f3; iapply (entails_of_eq (slotP_eq c 3 f3)); iexact H3

/-! ## The launch -/

/-- The kernel's own DMA semaphores: the two copies' and the ring's four. -/
abbrev osem : Fin 6 → SemLoc sig := ![.dma cc0_scratch3.sem, .dma cc0_scratch4.sem, .dma (csm 0).sem, .dma (csm 1).sem, .dma (csm 2).sem, .dma (csm 3).sem]
/-- The kernel's own semaphores are none of the pipeline's. -/
theorem ownSemFacts : Pipeline.OwnSemFacts spec0 osem := by decide
/-- The buffers the body reads by its own transfers. -/
abbrev HH : Finset (Ref sig .tc) := {main_v0, main_v1, main_arg1}

omit [FloatOps F] in
/-- Six pieces written out. -/
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [(0 : Fin 6), 1, 2, 3, 4, 5] (by decide) (by decide) Φ
/-- The kernel's own semaphores, written out. -/
theorem ownSems0_eq (c : Dev nD) : (Pipeline.ownSems0 (Ix := Unit) (Name := ℕ) (U := UU nD τ) (Lvl := ℕ) (Val := Elt F) (τ := τ) osem c : sProp 𝕄)
    = iprop(cellX c ∗ cellS c ∗ cellP c 0 ∗ cellP c 1 ∗ cellP c 2 ∗ cellP c 3) := by
  unfold Pipeline.ownSems0; rw [bigSep_fin6]; rfl
/-- The three arrays at home, written out. -/
theorem bigSep_HH (Φ : Ref sig .tc → sProp 𝕄) : bigSep HH Φ = iprop(Φ main_v0 ∗ Φ main_v1 ∗ Φ main_arg1) := by
  rw [bigSep_insert (by decide), bigSep_insert (by decide), bigSep_singleton]; rfl

/-- What the body may use beside the result's buffer, the same before and after its one point. -/
def ΦG (c : Dev nD) (X0 : Buf (Elt F) (xM.view.loc (c : Thread nD τ))) (S0 : Buf (Elt F) (sM.view.loc (c : Thread nD τ)))
    (XA : Buf (Elt F) (wM.view.loc (c : Thread nD τ))) : sProp 𝕄 :=
  iprop(xHome c X0 ∗ sHome c S0 ∗ (∃ f, xP c f) ∗ (∃ f, sP c f)
    ∗ bigSep Finset.univ (homeP c XA)
    ∗ (freeP c 0 ∗ freeP c 1 ∗ freeP c 2 ∗ freeP c 3) ∗ cellX c ∗ cellS c ∗ ∃ r, prngReg c r)

/-- The same as the launch hands it over: the scratch buffers whole, the register, the semaphores, the operands whole. -/
abbrev ΦL (c : Dev nD) (X0 : Buf (Elt F) (xM.view.loc (c : Thread nD τ))) (S0 : Buf (Elt F) (sM.view.loc (c : Thread nD τ)))
    (XA : Buf (Elt F) (wM.view.loc (c : Thread nD τ))) : sProp 𝕄 :=
  iprop(((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f))
    ∗ (∃ r, prngReg c r) ∗ (cellX c ∗ cellS c ∗ cellP c 0 ∗ cellP c 1 ∗ cellP c 2 ∗ cellP c 3)
    ∗ (((c : Thread nD τ).loc main_v0) ↦{fullShare} X0) ∗ (((c : Thread nD τ).loc main_v1) ↦{fullShare} S0) ∗ (((c : Thread nD τ).loc main_arg1) ↦{fullShare} XA))

/-- The whole activations at home, as the memref owns them. -/
theorem x_eq (c : Dev nD) (X : Buf (Elt F) (xM.view.loc (c : Thread nD τ))) : (((c : Thread nD τ).loc main_v0) ↦{fullShare} X : sProp 𝕄) = xHome c X := by
  unfold xHome; rw [show (xM : Memref sig .tc .hbm _ _).view.set = Finset.univ from View.set_whole _]
/-- The whole scales at home, as the memref owns them. -/
theorem s_eq (c : Dev nD) (X : Buf (Elt F) (sM.view.loc (c : Thread nD τ))) : (((c : Thread nD τ).loc main_v1) ↦{fullShare} X : sProp 𝕄) = sHome c X := by
  unfold sHome; rw [show (sM : Memref sig .tc .hbm _ _).view.set = Finset.univ from View.set_whole _]
/-- The activations' whole buffer, as the memref owns it. -/
theorem xB_eq (c : Dev nD) (X : Buf (Elt F) (xB.view.loc (c : Thread nD τ))) : (((c : Thread nD τ).loc cc0_scratch0) ↦{fullShare} X : sProp 𝕄) = xP c X := by
  unfold xP; rw [show (xB : Memref sig .tc .vmem _ _).view.set = Finset.univ from View.set_whole _]
/-- The scales' whole buffer, as the memref owns it. -/
theorem sB_eq (c : Dev nD) (X : Buf (Elt F) (sB.view.loc (c : Thread nD τ))) : (((c : Thread nD τ).loc cc0_scratch1) ↦{fullShare} X : sProp 𝕄) = sP c X := by
  unfold sP; rw [show (sB : Memref sig .tc .vmem _ _).view.set = Finset.univ from View.set_whole _]

/-- What the launch hands over is what the body needs, -/
theorem toΦ (c : Dev nD) (X0 : Buf (Elt F) (xM.view.loc (c : Thread nD τ))) (S0 : Buf (Elt F) (sM.view.loc (c : Thread nD τ)))
    (XA : Buf (Elt F) (wM.view.loc (c : Thread nD τ))) : ΦL c X0 S0 XA ⊢ ΦG c X0 S0 XA := by
  unfold ΦG
  iintro ⟨⟨⟨%fx, HX⟩, ⟨%fs, HS⟩, HB⟩, Hr, ⟨HcX, HcS, Hc0, Hc1, Hc2, Hc3⟩, Hx0, Hs0, Hw⟩
  ihave Hs := (buf_split c) $$ HB
  icases Hs with ⟨⟨%f0, Hb0⟩, ⟨%f1, Hb1⟩, ⟨%f2, Hb2⟩, ⟨%f3, Hb3⟩⟩
  isplitl [Hx0]; · iapply (entails_of_eq (x_eq c X0)); iexact Hx0
  isplitl [Hs0]; · iapply (entails_of_eq (s_eq c S0)); iexact Hs0
  isplitl [HX]; · iexists fx; iapply (entails_of_eq (xB_eq c fx)); iexact HX
  isplitl [HS]; · iexists fs; iapply (entails_of_eq (sB_eq c fs)); iexact HS
  isplitl [Hw]; · iapply (entails_of_eq (w_eq c XA)); iexact Hw
  isplitl [Hc0 Hc1 Hc2 Hc3 Hb0 Hb1 Hb2 Hb3]
  · isplitl [Hc0 Hb0]
    · iexists f0; isplitl [Hc0]; · iexact Hc0
      iexact Hb0
    isplitl [Hc1 Hb1]
    · iexists f1; isplitl [Hc1]; · iexact Hc1
      iexact Hb1
    isplitl [Hc2 Hb2]
    · iexists f2; isplitl [Hc2]; · iexact Hc2
      iexact Hb2
    iexists f3; isplitl [Hc3]; · iexact Hc3
    iexact Hb3
  isplitl [HcX]; · iexact HcX
  isplitl [HcS]; · iexact HcS
  iexact Hr
/-- and back. -/
theorem fromΦ (c : Dev nD) (X0 : Buf (Elt F) (xM.view.loc (c : Thread nD τ))) (S0 : Buf (Elt F) (sM.view.loc (c : Thread nD τ)))
    (XA : Buf (Elt F) (wM.view.loc (c : Thread nD τ))) : ΦG c X0 S0 XA ⊢ ΦL c X0 S0 XA := by
  unfold ΦG
  iintro ⟨Hx0, Hs0, ⟨%fx, HX⟩, ⟨%fs, HS⟩, Hw, ⟨⟨%f0, Hc0, Hb0⟩, ⟨%f1, Hc1, Hb1⟩, ⟨%f2, Hc2, Hb2⟩, ⟨%f3, Hc3, Hb3⟩⟩, HcX, HcS, Hr⟩
  isplitl [HX HS Hb0 Hb1 Hb2 Hb3]
  · isplitl [HX]; · iexists fx; iapply (entails_of_eq (xB_eq c fx).symm); iexact HX
    isplitl [HS]; · iexists fs; iapply (entails_of_eq (sB_eq c fs).symm); iexact HS
    iapply (buf_join c)
    isplitl [Hb0]; · iexists f0; iexact Hb0
    isplitl [Hb1]; · iexists f1; iexact Hb1
    isplitl [Hb2]; · iexists f2; iexact Hb2
    iexists f3; iexact Hb3
  isplitl [Hr]; · iexact Hr
  isplitl [HcX HcS Hc0 Hc1 Hc2 Hc3]
  · isplitl [HcX]; · iexact HcX
    isplitl [HcS]; · iexact HcS
    isplitl [Hc0]; · iexact Hc0
    isplitl [Hc1]; · iexact Hc1
    isplitl [Hc2]; · iexact Hc2
    iexact Hc3
  isplitl [Hx0]; · iapply (entails_of_eq (x_eq c X0).symm); iexact Hx0
  isplitl [Hs0]; · iapply (entails_of_eq (s_eq c S0).symm); iexact Hs0
  iapply (entails_of_eq (w_eq c XA).symm); iexact Hw

variable (m : (ℓ : Loc nD τ sig) → Buf (Elt F) ℓ) (ρ : Dev nD → PrngReg)

/-- The body's own pieces at the arrays the region begins with. -/
abbrev ΦR (c : Dev nD) : sProp 𝕄 := ΦG c (V m c main_v0) (V m c main_v1) (V m c main_arg1)

/-- The array the kernel leaves. -/
def outM (c : Dev nD) : S24x14336.Idx → Elt F .bf16 :=
  outArr c (V m c main_arg1) (xIn c (V m c main_v0)) (sIn c (V m c main_v1))

/-- The result window's staging buffer. -/
abbrev st0 (t : Fin cfg0.N) : Memref sig .tc .vmem S24x14336 .bf16 := win0_0.stage (cfg0.slots t 0)
/-- The staging buffer is a whole buffer. -/
abbrev hst0 (t : Fin cfg0.N) : (st0 t).IsWhole := hstage0_0 0

/-- The proof's data: the result's window ends at `outM`. -/
def dats (_ : Fin 1) (c : Dev nD) : Dat τ (Elt F) Unit ℕ (UU nD τ) ℕ cfg0 c where
  A w := V m c (Pipeline.arrRef spec0 w)
  after w t := match w with | ⟨0, _⟩ => outM m c
  Φ _ := ΦR m c
  q _ := fullShare
  owed _ := 0

/-- After the step the result window holds what the body leaves. -/
theorem after_w0 (c : Dev nD) (t : Fin cfg0.N) : (dats m 0 c).after 0 t = outM m c := by dsimp only [dats]

/-- The body's definition. -/
theorem defs_tc : (defs₀ (F := F)) .tc cfg0.body = fun a => bodyG (win0_0.stage (a.2 0)) (hstage0_0 0) := rfl
/-- The body's program at a step. -/
theorem prog_eq (t : Fin cfg0.N) : (defs₀ (F := F)) .tc cfg0.body (cfg0.bodyArgs t (cfg0.slots t)) = bodyG (st0 t) (hst0 t) :=
  (congrFun defs_tc _).trans rfl

set_option backward.isDefEq.respectTransparency.types false in
/-- The body at its point: from what is held to the result's buffer at `outM`. -/
theorem body_obligation (c : Dev nD) : BodyObligation (dats (F := F) m 0 c) (defs₀ (F := F)) 𝒱₀ () Set.univ := fun t => by
  rw [bigSep_W0, bigSep_W0]
  dsimp only
  simp only [after_w0]
  rw [show (dats m 0 c).Φ t.castSucc = ΦR m c from rfl, show (dats m 0 c).Φ t.succ = ΦR m c from rfl]
  unfold Dat.owesAt Pipeline.owesWithin
  rw [show (dats m 0 c).owed t.castSucc = 0 from rfl, show (dats m 0 c).owed t.succ = 0 from rfl]
  unfold owns ΦR ΦG
  iintro ⟨⟨HX0, HS0, HX, HS, Hh, HF, HcX, HcS, Hr⟩, ⟨%W, -, HW⟩, ⟨%d1, %gO, -, HO⟩⟩
  ihave Hh4 := (entails_of_eq (homes_zero c (V m c main_arg1))) $$ Hh
  sl_rw [prog_eq t]
  iapply (bodyRun c (V m c main_arg1) (V m c main_v0) (V m c main_v1) (st0 t) (hst0 t) gO W)
  isplitl [HX0 HS0 HO HX HS Hh4 HF HcX HcS HW]
  · isplitl [HX0]; · iexact HX0
    isplitl [HS0]; · iexact HS0
    isplitl [HO]; · iexact HO
    isplitl [HX]; · iexact HX
    isplitl [HS]; · iexact HS
    isplitl [Hh4]; · iexact Hh4
    isplitl [HF]; · iexact HF
    isplitl [HcX]; · iexact HcX
    isplitl [HcS]; · iexact HcS
    iexact HW
  · iintro ⟨HX0, HS0, HO, HX, HS, Hh, HF, HcX, HcS, ⟨%W', HW⟩⟩
    isplitl [HX0 HS0 HX HS Hh HF HcX HcS Hr]
    · isplitl [HX0]; · iexact HX0
      isplitl [HS0]; · iexact HS0
      isplitl [HX]; · iexact HX
      isplitl [HS]; · iexact HS
      isplitl [Hh]; · iexact Hh
      isplitl [HF]; · iexact HF
      isplitl [HcX]; · iexact HcX
      isplitl [HcS]; · iexact HcS
      iexact Hr
    isplitl [HW]
    · iexists W'; isplitr; · ipureintro; exact fun _ _ => Or.inl trivial
      iexact HW
    iexists _; isplitr
    · ipureintro; exact read_out c (V m c main_arg1) (st0 t) (xIn c (V m c main_v0)) (sIn c (V m c main_v1)) gO
    iexact HO

/-- `main` around the region, at this proof's algebra. -/
theorem hmain : Pipeline.HMainK (Ix := Unit) (Name := ℕ) (U := UU nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The host line after the region touches none of the buffers the body transfers from. -/
theorem sfx_but : ∀ ops ∈ ([hostOps1] : List (List (HloOp τ sig (Elt F)))), ∀ op ∈ ops,
    op.bufs ⊆ Pipeline.tailRefsBut sig Pipeline.Prefetch.none spec0 HH := by
  intro ops hops op hop
  simp only [List.mem_cons, List.mem_nil_iff, or_false] at hops
  rcases hops with rfl
  have h1 := (List.forall_iff_forall_mem.mp hostOps1_sub) op hop
  refine Pipeline.sub_tailRefsBut _ _ _ op h1 (fun k => k.elim0) ?_
  simp only [hostOps1, List.mem_cons, List.mem_nil_iff, or_false] at hop
  rcases hop with rfl
  intro b hb
  simp only [HH, Finset.mem_insert, Finset.mem_singleton] at hb
  rw [StableHlo.reshape_bufs]
  simp only [Finset.mem_insert, Finset.mem_singleton, not_or]
  rcases hb with rfl | rfl | rfl <;> exact ⟨StableHlo.devRef_ne_of_ne (by decide), StableHlo.devRef_ne_of_ne (by decide)⟩

/-- The run: from any memory with every semaphore at zero, @main ends, its result window at `outM`, every semaphore at
    zero again. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around cfgs (dats m) 0 launch0 osem defs₀ 𝒱₀ ownSemFacts HH (by decide) m ρ main
    (fun c => (body_obligation m c).loose) (fun c => (dats m 0 c).share_full fun _ => rfl) (fun _ _ => rfl)
    (V0 m) [hostOps1] sfx_but sfx_fresh sfx_keeps (hmain m) (fun _ _ => rfl)
    (fun c => by
      rw [Pipeline.ΦD_eq, scopedRest0_eq, ownSems0_eq, bigSep_HH]
      exact toΦ c (V m c main_v0) (V m c main_v1) (V m c main_arg1))
    (fun c => by
      rw [Pipeline.ΦD_eq, scopedRest0_eq, ownSems0_eq, bigSep_HH]
      exact fromΦ c (V m c main_v0) (V m c main_v1) (V m c main_arg1))
    _ (fun _ h => h)

/-! ## The arguments end as they began -/

/-- No host operation after the region writes `main_arg0`: it ends as launched. -/
theorem end_main_arg0 (dats : (p : Fin _) → (c : Dev nD) → Dat τ (Elt F) Unit ℕ (UU nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem end_main_arg1 (dats : (p : Fin _) → (c : Dev nD) → Dat τ (Elt F) Unit ℕ (UU nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem end_main_arg2 (dats : (p : Fin _) → (c : Dev nD) → Dat τ (Elt F) Unit ℕ (UU nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- Every run ends with the three arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨(((h.1 c).2 main_arg0 (Pipeline.mem_restRefs_of main_arg0 (by decide) (by decide))).trans (end_main_arg0 m (dats m) c)),
      (((h.1 c).2 main_arg1 (Pipeline.mem_restRefs_of main_arg1 (by decide) (by decide))).trans (end_main_arg1 m (dats m) c)),
      (((h.1 c).2 main_arg2 (Pipeline.mem_restRefs_of main_arg2 (by decide) (by decide))).trans (end_main_arg2 m (dats m) c))⟩, h.2⟩) (run_main m ρ)

/-- The run's final memory alone. -/
theorem run_frame : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main m ρ)
end Cert.KernelIdeal.Hand
-- ==== Proof.Reference.lean ====
/-
  The reference program's host operations as a list, and what a run of them leaves: the result at the operations'
  composed term of the arguments, the arguments unchanged.
-/
module

public import proofs.«01_k».proof.Proof.Gen.ReferenceIdeal
public import Idealize.ShloMosaic.Lib.StableHlo.Run

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- @main's 8 operations, in order. -/
abbrev ops : List (HloOp τ sig (Elt F)) :=
  [ unary main_arg1 main_v0 ((extsi 32 · natLt_8_32) : (⟨S14336x4096, .i8⟩ : BufTy).Contents (Elt F) → (⟨S14336x4096, .i32⟩ : BufTy).Contents (Elt F)),
    unary main_v0 main_v1 (sitofp .bf16 : (⟨S14336x4096, .i32⟩ : BufTy).Contents (Elt F) → (⟨S14336x4096, .bf16⟩ : BufTy).Contents (Elt F)),
    unary main_arg2 main_v2 ((truncf .bf16 · bitsLt_bf16_f32) : (⟨S14336, .f32⟩ : BufTy).Contents (Elt F) → (⟨S14336, .bf16⟩ : BufTy).Contents (Elt F)),
    unary main_v2 main_v3 (broadcastInDim S14336x1 ![0] bcast_S14336_S14336x1_0 : (⟨S14336, .bf16⟩ : BufTy).Contents (Elt F) → (⟨S14336x1, .bf16⟩ : BufTy).Contents (Elt F)),
    unary main_v3 main_v4 (broadcastInDim S14336x4096 ![0, 1] bcast_S14336x1_S14336x4096_0_1 : (⟨S14336x1, .bf16⟩ : BufTy).Contents (Elt F) → (⟨S14336x4096, .bf16⟩ : BufTy).Contents (Elt F)),
    binary main_v1 main_v4 main_v5 (mulf : (⟨S14336x4096, .bf16⟩ : BufTy).Contents (Elt F) → (⟨S14336x4096, .bf16⟩ : BufTy).Contents (Elt F) → (⟨S14336x4096, .bf16⟩ : BufTy).Contents (Elt F)),
    binary main_arg0 main_v5 main_v6 ((fun l r => Host.dotGeneral dot_S24x1x4096_S14336x4096_S24x1x14336_2_1_01_0_n_n none l r) : (⟨S24x1x4096, .bf16⟩ : BufTy).Contents (Elt F) → (⟨S14336x4096, .bf16⟩ : BufTy).Contents (Elt F) → (⟨S24x1x14336, .f32⟩ : BufTy).Contents (Elt F)),
    unary main_v6 main_v7 ((truncf .bf16 · bitsLt_bf16_f32) : (⟨S24x1x14336, .f32⟩ : BufTy).Contents (Elt F) → (⟨S24x1x14336, .bf16⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., unary_bufs_sub .., unary_bufs_sub .., unary_bufs_sub .., unary_bufs_sub .., binary_bufs_sub .., binary_bufs_sub .., unary_bufs_sub ..⟩

/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7) = truncf .bf16 (Host.dotGeneral dot_S24x1x4096_S14336x4096_S24x1x14336_2_1_01_0_n_n none (m ((c.tc : Thread nD τ).loc main_arg0)) (mulf (sitofp .bf16 (extsi 32 (m ((c.tc : Thread nD τ).loc main_arg1)) natLt_8_32)) (broadcastInDim S14336x4096 ![0, 1] bcast_S14336x1_S14336x4096_0_1 (broadcastInDim S14336x1 ![0] bcast_S14336_S14336x1_0 (truncf .bf16 (m ((c.tc : Thread nD τ).loc main_arg2)) bitsLt_bf16_f32))))) bitsLt_bf16_f32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v7).trans (by after_results),
      (h c main_arg0).trans (by after_results),
      (h c main_arg1).trans (by after_results),
      (h c main_arg2).trans (by after_results)⟩)
    (run_seq scopedRefs_eq scopedSems_eq defs main (fun _ => ops) main_eq (fun _ => ops_sub) m ρ)

end Cert.ReferenceIdeal.Value

end
-- ==== Proof.Value.lean ====
module

public import proofs.«01_k».proof.Proof.Body
public import proofs.«01_k».proof.Proof.Reference
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.RefValue

open Cert.KernelIdeal Cert.KernelIdeal.Gen Cert.KernelIdeal.Hand

variable (m : (ℓ : Loc nD τ sig) → Buf (Elt Ideal) ℓ)

/-- The linear layer over the reference's arrays, without the batch axis: row `b`, output channel `o` holds
    the sum over `d` of `x[b, 0, d] * (codes[o, d] * scale[o])`. -/
def lin (x : FVec Ideal S24x1x4096 .bf16) (w : IVec S14336x4096 8) (s : FVec Ideal S14336 .f32) : FVec Ideal S24x14336 .bf16 :=
  fun j => ∑ k : Fin 4096, (x (ix3 (j 0) 0 k) : EReal) * ((FloatOps.sitofp (F := Ideal) .bf16 (w (ix2 (j 1) k)) : EReal) * (s (ix1 (j 1)) : EReal))

/-- At the region's entry the kernel's activations are the argument without its middle axis. -/
theorem V_v0 (c : Dev nD) : V m c main_v0 = shapeCast S24x4096 (m ((c : Thread nD τ).loc main_arg0)) shapeCasts_S24x1x4096_S24x4096 := by
  simp only [V, V0, List.flatten_cons, List.flatten_nil, List.append_nil]
  refine Eq.trans (by after_results; rfl) rfl

/-- At the region's entry the kernel's scales are the argument as one row. -/
theorem V_v1 (c : Dev nD) : V m c main_v1 = shapeCast S1x14336 (m ((c : Thread nD τ).loc main_arg2)) shapeCasts_S14336_S1x14336 := by
  simp only [V, V0, List.flatten_cons, List.flatten_nil, List.append_nil]
  refine Eq.trans (by after_results; rfl) rfl

/-- Dropping the middle axis of length one keeps the entries. -/
theorem cast_x (x : FVec Ideal S24x1x4096 .bf16) (a : Fin 24) (b : Fin 4096) : shapeCast S24x4096 x shapeCasts_S24x1x4096_S24x4096 (ix2 a b) = x (ix3 a 0 b) := by
  pointwise

/-- A vector read as one row keeps its entries. -/
theorem cast_s (x : FVec Ideal S14336 .f32) (b : Fin 14336) : shapeCast S1x14336 x shapeCasts_S14336_S1x14336 (ix2 0 b) = x (ix1 b) := by
  pointwise

/-- An entry of the kernel's activations is the argument's entry. -/
theorem V_x (c : Dev nD) (a : Fin 24) (b : Fin 4096) : V m c main_v0 (ix2 a b) = m ((c : Thread nD τ).loc main_arg0) (ix3 a 0 b) :=
  (congrFun (V_v0 m c) _).trans (cast_x _ a b)

/-- An entry of the kernel's scale row is the argument's entry. -/
theorem V_s (c : Dev nD) (b : Fin 14336) : V m c main_v1 (ix2 (0 : Fin 1) b) = m ((c : Thread nD τ).loc main_arg2) (ix1 b) :=
  (congrFun (V_v1 m c) _).trans (cast_s _ b)

/-- One stored entry: the product of its activation row with its weight row, scaled. -/
theorem pay_at (s : FVec Ideal S1x1024 .f32) (w : IVec S1x1024x4096 8) (x : FVec Ideal S24x4096 .bf16) (a : Fin 24) (b : Fin 1024) :
    k0_pay1 s w x (ix2 a b) = ∑ k : Fin 4096, (x (ix2 a k) : EReal) * ((FloatOps.sitofp (F := Ideal) .bf16 (w (ix3 0 b k)) : EReal) * (s (ix2 0 b) : EReal)) := by
  pointwise [k0_pay1]

/-- Dropping the leading axis of a weight slab keeps its entries. -/
theorem cast_w (w : IVec S1x1024x4096 8) (b : Fin 1024) (k : Fin 4096) : shapeCast S1024x4096 w shapeCasts_S1x1024x4096_S1024x4096 (ix2 b k) = w (ix3 0 b k) := by
  pointwise

/-- A slot read through the whole ring is the slot read through itself. -/
theorem slot_read {off : Fin 3 → Nat} {s : Fin 4} (e : off = slotOff s) (h) (f : bufM.view.ty.Contents (Elt Ideal)) :
    shapeCast S1024x4096 (bufM.view.readAt (Elt Ideal) (Rect.unit (s := S4x1024x4096) off S1x1024x4096.size h).toLoadRect f) shapeCasts_S1x1024x4096_S1024x4096
      = (rslot s).view.read (Elt Ideal) f := by
  subst e; rfl

/-- Trip `k`'s weight slab at `(b, d)` is the weights at row `k * 1024 + b`. -/
theorem wRows_at (c : Dev nD) (XA : Buf (Elt Ideal) (wM.view.loc (c : Thread nD τ))) (k : Fin k0_t1_loop.trips) (b : Fin 1024) (d : Fin 4096)
    (h : k.val * 1024 + b.val < 14336) : wRows c XA k (ix3 0 b d) = XA (ix2 ⟨k.val * 1024 + b.val, h⟩ d : S14336x4096.Idx) := by
  refine (cast_w _ b d).symm.trans ((congrFun (slot_read (off5_eq k) _ _) _).trans ((congrFun (View.read_writes_whole _ _ _) _).trans ?_))
  show XA ((grp (Ring.bk 14 k.val)).view.emb (ix2 b d)) = _
  refine congrArg XA (show (_ : S14336x4096.Idx) = _ from ?_)
  funext (a : Fin 2); apply Fin.ext
  have hb := Ring.bk_val (NB := 14) (trip_lt k)
  match a with
  | 0 => show (Ring.bk 14 k.val).val * 1024 + 1 * b.val = _; rw [hb]; show _ = k.val * 1024 + b.val; omega
  | 1 => show 0 + 1 * d.val = d.val; omega

/-- Trip `k`'s scale row at `b` is scale `k * 1024 + b`. -/
theorem sRow_at (c : Dev nD) (S0 : Buf (Elt Ideal) (sM.view.loc (c : Thread nD τ))) (k : Fin k0_t1_loop.trips) (b : Fin 1024)
    (h : k.val * 1024 + b.val < 14336) : sRow c (sIn c S0) k (ix2 0 b) = S0 (ix2 0 ⟨k.val * 1024 + b.val, h⟩ : S1x14336.Idx) := by
  refine (congrFun (View.read_writes_whole sB.view _ _) _).trans ?_
  show S0 _ = S0 _
  refine congrArg S0 ?_
  funext a; apply Fin.ext
  match a with
  | 0 => rfl
  | 1 => show k0_off4 k 1 + 1 * b.val = k.val * 1024 + b.val; rw [off4_eq k]; show k.val * 1024 + 1 * b.val = _; omega

/-- The activations as loaded are the activations. -/
theorem xAll_at (c : Dev nD) (X0 : Buf (Elt Ideal) (xM.view.loc (c : Thread nD τ))) (a : Fin 24) (d : Fin 4096) :
    xAll c (xIn c X0) (ix2 a d) = X0 (ix2 a d : S24x4096.Idx) := by
  refine (congrFun (View.read_writes_whole xB.view _ _) _).trans ?_
  show X0 _ = X0 _
  refine congrArg X0 ?_
  funext i; apply Fin.ext
  match i with
  | 0 => show 0 + 1 * a.val = a.val; omega
  | 1 => show 0 + 1 * d.val = d.val; omega

/-- What trip `k` stores is columns `k * 1024` to `k * 1024 + 1023` of the linear layer. -/
theorem outV_at (c : Dev nD) (k : Fin k0_t1_loop.trips) (r : Fin 24) (b : Fin 1024) (h : k.val * 1024 + b.val < 14336) :
    outV c (V m c main_arg1) (xIn c (V m c main_v0)) (sIn c (V m c main_v1)) k (ix2 r b)
      = lin (m ((c : Thread nD τ).loc main_arg0)) (m ((c : Thread nD τ).loc main_arg1)) (m ((c : Thread nD τ).loc main_arg2)) (ix2 r ⟨k.val * 1024 + b.val, h⟩) := by
  unfold outV
  refine (pay_at _ _ _ _ _).trans (Finset.sum_congr rfl fun d _ => ?_)
  rw [xAll_at, wRows_at c _ k b d h, sRow_at c _ k b h]
  refine congrArg₂ (· * ·) (V_x m c _ _) (congrArg₂ (· * ·) ?_ (V_s m c _))
  exact congrArg _ (congrFun (V_main_arg1 m c) _)

/-- The array at column `k * 1024 + b` is what trip `k` stores at its column `b`. -/
theorem outArr_at (c : Dev nD) (XA : Buf (Elt Ideal) (wM.view.loc (c : Thread nD τ))) (fx : Buf (Elt Ideal) (xB.view.loc (c : Thread nD τ)))
    (fs : Buf (Elt Ideal) (sB.view.loc (c : Thread nD τ))) (k : Fin k0_t1_loop.trips) (r : Fin 24) (b : Fin 1024) (h : k.val * 1024 + b.val < 14336) :
    outArr c XA fx fs (ix2 r ⟨k.val * 1024 + b.val, h⟩) = outV c XA fx fs k (ix2 r b) := by
  have hb := b.isLt
  have e1 : (k.val * 1024 + b.val) / 1024 = k.val := by omega
  have e2 : (k.val * 1024 + b.val) % 1024 = b.val := by omega
  have key : ∀ (k' : Fin k0_t1_loop.trips) (x : S24x1024.Idx), k' = k → x = ix2 r b → outV c XA fx fs k' x = outV c XA fx fs k (ix2 r b) := by
    rintro _ _ rfl rfl; rfl
  refine key _ _ (Fin.ext e1) ?_
  funext (a : Fin 2); apply Fin.ext
  match a with
  | 0 => rfl
  | 1 => exact e2

/-- The array the kernel leaves is the linear layer. -/
theorem outM_eq (c : Dev nD) : outM m c = lin (m ((c : Thread nD τ).loc main_arg0)) (m ((c : Thread nD τ).loc main_arg1)) (m ((c : Thread nD τ).loc main_arg2)) := by
  funext y
  obtain ⟨r, q, rfl⟩ : ∃ (r : Fin 24) (q : Fin 14336), y = ix2 r q := ⟨y 0, y 1, by funext (a : Fin 2); match a with | 0 => rfl | 1 => rfl⟩
  have hq := q.isLt
  obtain ⟨k, b, h, rfl⟩ : ∃ (k : Fin k0_t1_loop.trips) (b : Fin 1024) (h : k.val * 1024 + b.val < 14336), q = ⟨k.val * 1024 + b.val, h⟩ :=
    ⟨⟨q.val / 1024, by rw [trips_eq]; omega⟩, ⟨q.val % 1024, Nat.mod_lt _ (by decide)⟩, by show q.val / 1024 * 1024 + q.val % 1024 < 14336; omega,
      Fin.ext (by show q.val = q.val / 1024 * 1024 + q.val % 1024; omega)⟩
  exact (outArr_at c _ _ _ k r b h).trans (outV_at m c k r b h)

/-- The result window's array at the end of the region. -/
theorem final (c : Dev nD) : (dats m 0 c).arrAt 0 (cfgs 0).N
    = lin (m ((c : Thread nD τ).loc main_arg0)) (m ((c : Thread nD τ).loc main_arg1)) (m ((c : Thread nD τ).loc main_arg2)) := by
  refine (dats m 0 c).arrAt_eq_of_covers 0 _ (by decide +kernel) fun t _ y => ?_
  rw [after_w0, outM_eq]
  refine congrArg (lin _ _ _) ?_
  blk_ext [show ∀ t : Fin cfg0.N, win0_0.index t = ![0, 0] from (by decide +kernel : ∀ t : Fin grid0.N, _) t]

/-- The program's result array after the host's last reshape. -/
theorem tail (c : Dev nD) : Pipeline.afterTail₀ cfgs (dats m) 0 (V0 m) [hostOps1] c main_v3
    = shapeCast S24x1x14336 (lin (m ((c : Thread nD τ).loc main_arg0)) (m ((c : Thread nD τ).loc main_arg1)) (m ((c : Thread nD τ).loc main_arg2))) shapeCasts_S24x14336_S24x1x14336 := by
  rw [← final m c]
  unfold Pipeline.afterTail₀
  simp only [List.flatten_cons, List.flatten_nil, List.append_nil]
  refine Eq.trans (b := shapeCast S24x1x14336 (Pipeline.withArrays spec0 c (V0 m c) (fun w => (dats m 0 c).arrAt w (cfgs 0).N) (Proc.devRef .tc main_v2)) shapeCasts_S24x14336_S24x1x14336) (by after_results; rfl) ?_
  exact congrArg (fun z => shapeCast S24x1x14336 z shapeCasts_S24x14336_S24x1x14336)
    (Pipeline.withArrays_arr spec0 launch0.win.arr_inj c (V0 m c) (fun w => (dats m 0 c).arrAt w (cfgs 0).N) 0)

end Cert.KernelIdeal.RefValue

namespace Cert.ReferenceIdeal.RefValue

open Cert.ReferenceIdeal Cert.ReferenceIdeal.Gen

/-- The reference's result is the linear layer, with its middle axis back. -/
theorem ref_eq (x : FVec Ideal S24x1x4096 .bf16) (w : IVec S14336x4096 8) (s : FVec Ideal S14336 .f32) :
  truncf .bf16 (Host.dotGeneral dot_S24x1x4096_S14336x4096_S24x1x14336_2_1_01_0_n_n none x (mulf (sitofp .bf16 (extsi 32 w natLt_8_32)) (broadcastInDim S14336x4096 ![0, 1] bcast_S14336x1_S14336x4096_0_1 (broadcastInDim S14336x1 ![0] bcast_S14336_S14336x1_0 (truncf .bf16 s bitsLt_bf16_f32))))) bitsLt_bf16_f32
   = shapeCast S24x1x14336 (Cert.KernelIdeal.RefValue.lin x w s) Cert.KernelIdeal.Gen.shapeCasts_S24x14336_S24x1x14336 := by
  funext j
  idx_vars j
  pointwise [Cert.KernelIdeal.RefValue.lin]
  obtain rfl : j1 = 0 := Subsingleton.elim _ _
  refine Finset.sum_congr rfl fun k _ => ?_
  have h : (FloatOps.sitofp (F := Ideal) .bf16 (BitVec.signExtend 32 (w (ix2 j2 k))) : EReal) = FloatOps.sitofp (F := Ideal) .bf16 (w (ix2 j2 k)) := by
    show (((BitVec.signExtend 32 (w (ix2 j2 k))).toInt : ℝ) : EReal) = (((w (ix2 j2 k)).toInt : ℝ) : EReal)
    rw [BitVec.toInt_signExtend_of_le (by decide)]
  rw [h]

end Cert.ReferenceIdeal.RefValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Loops
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Loops
public import proofs.«01_k».proof.Proof.Gen.KernelIdeal.Frame
public import proofs.«01_k».proof.Proof.Gen.ReferenceIdeal
public import proofs.«01_k».proof.Proof.BodyKernel
public import proofs.«01_k».proof.Proof.Body
public import proofs.«01_k».proof.Proof.Reference
public import proofs.«01_k».proof.Proof.Value
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The kernel and the reference, over the extended reals, leave the same result from the same arguments. -/
theorem algebraic : Cert.algebraic_KernelIdeal_ReferenceIdeal := by
  pair_intro
  · run_from Cert.KernelIdeal.Hand.run_frame m g
    · exact Cert.KernelIdeal.Hand.end_main_arg0 m _ c
    · exact Cert.KernelIdeal.Hand.end_main_arg1 m _ c
    · exact Cert.KernelIdeal.Hand.end_main_arg2 m _ c
  · run_from Cert.ReferenceIdeal.Value.run m' g'
    exact (Cert.ReferenceIdeal.RefValue.ref_eq _ _ _).trans (Cert.KernelIdeal.RefValue.tail m c).symm

/-- The five claims. -/
theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ,
  fun m ρ _ => (θ_run Cert.ReferenceIdeal.defs _ _).mono (fun r h => ⟨fun c => (h c).2,
      Idealize.ShloMosaic.sem_eq_zero_of_no_sems (by decide) r.2⟩)
    (Cert.ReferenceIdeal.Value.run (F := Ideal) m ρ), trivial, algebraic⟩

end Cert.Proof

end
